-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_range [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_types_in_range [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_types_in_range [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel)
    ∧ quiescent_KernelIdeal (hKernelIdeal := hKernelIdeal)
    ∧ quiescent_KernelIdeal_pre_types_in_range (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal_pre_types_in_range (hKernelIdeal := hKernelIdeal) (hReferenceIdeal := hReferenceIdeal) (hPre_types_in_range := hPre_types_in_range)
-- ==== Pre_types_in_range.lean ====
abbrev S50000x256 : Shape := ⟨2, ![50000, 256]⟩
abbrev S50000 : Shape := ⟨1, ![50000]⟩
abbrev S4x256x256 : Shape := ⟨3, ![4, 256, 256]⟩
abbrev S4x256 : Shape := ⟨2, ![4, 256]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) (main_arg2 : FVec F S4x256x256 .f32) (main_arg3 : FVec F S4x256 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 4#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Kernel.lean ====
abbrev S50000x256 : Shape := ⟨2, ![50000, 256]⟩
abbrev S50000 : Shape := ⟨1, ![50000]⟩
abbrev S4x256x256 : Shape := ⟨3, ![4, 256, 256]⟩
abbrev S4x256 : Shape := ⟨2, ![4, 256]⟩
abbrev S50000x1 : Shape := ⟨2, ![50000, 1]⟩
abbrev S256x4x256 : Shape := ⟨3, ![256, 4, 256]⟩
abbrev S256x1024 : Shape := ⟨2, ![256, 1024]⟩
abbrev S4x2000x256 : Shape := ⟨3, ![4, 2000, 256]⟩
abbrev S4x2000x1 : Shape := ⟨3, ![4, 2000, 1]⟩
abbrev S4 : Shape := ⟨1, ![4]⟩
abbrev S1 : Shape := ⟨1, ![1]⟩
abbrev S_ : Shape := ⟨0, ![]⟩
abbrev S1x2000x256 : Shape := ⟨3, ![1, 2000, 256]⟩
abbrev S2000x256 : Shape := ⟨2, ![2000, 256]⟩
abbrev S1x2000x1 : Shape := ⟨3, ![1, 2000, 1]⟩
abbrev S2000x1 : Shape := ⟨2, ![2000, 1]⟩
abbrev S2000x1024 : Shape := ⟨2, ![2000, 1024]⟩
abbrev S1x256 : Shape := ⟨2, ![1, 256]⟩
abbrev S256 : Shape := ⟨1, ![256]⟩

abbrev nBuf : Space → Nat
  | .hbm => 10
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S4x256x256, .f32⟩
  | .hbm, ⟨3, _⟩ => ⟨S4x256, .f32⟩
  | .hbm, ⟨4, _⟩ => ⟨S50000x1, .i32⟩
  | .hbm, ⟨5, _⟩ => ⟨S4x256x256, .f32⟩
  | .hbm, ⟨6, _⟩ => ⟨S256x4x256, .f32⟩
  | .hbm, ⟨7, _⟩ => ⟨S256x1024, .f32⟩
  | .hbm, ⟨8, _⟩ => ⟨S256x1024, .bf16⟩
  | .hbm, ⟨9, _⟩ => ⟨S50000x256, .f32⟩
  | .local _ .vmem, ⟨0, _⟩ => ⟨S256x1024, .bf16⟩
  | .local _ .vmem, ⟨1, _⟩ => ⟨S4x256, .f32⟩
  | .local _ .vmem, ⟨2, _⟩ => ⟨S4x2000x256, .f32⟩
  | .local _ .vmem, ⟨3, _⟩ => ⟨S4x2000x1, .i32⟩
  | .local _ .vmem, ⟨4, _⟩ => ⟨S4x2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![25], ![false]⟩

def k0_off1 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off2 (i : grid0.Coords) : Fin 3 → Nat :=
  let arg0 : BitVec 32 := BitVec.ofNat 32 (i 0).val
  let c4_i32 : BitVec 32 := 4#32
  let v0 : BitVec 32 := Scalar.remsi arg0 c4_i32
  let c0_i32_2 : BitVec 32 := 0#32
  let c0_i32_3 : BitVec 32 := 0#32
  ![v0.toNat, 0, 0]
def k0_off3 (i : grid0.Coords) : Fin 2 → Nat :=
  let arg0 : BitVec 32 := BitVec.ofNat 32 (i 0).val
  let c2000_i32 : BitVec 32 := 2000#32
  let v4 : BitVec 32 := Scalar.muli arg0 c2000_i32
  let c0_i32_4 : BitVec 32 := 0#32
  ![v4.toNat, 0]
def k0_off4 (i : grid0.Coords) : Fin 3 → Nat :=
  let arg0 : BitVec 32 := BitVec.ofNat 32 (i 0).val
  let c4_i32 : BitVec 32 := 4#32
  let v0 : BitVec 32 := Scalar.remsi arg0 c4_i32
  let c0_i32_5 : BitVec 32 := 0#32
  let c0_i32_6 : BitVec 32 := 0#32
  ![v0.toNat, 0, 0]
def k0_off5 (i : grid0.Coords) : Fin 2 → Nat :=
  let arg0 : BitVec 32 := BitVec.ofNat 32 (i 0).val
  let c2000_i32_1 : BitVec 32 := 2000#32
  let v5 : BitVec 32 := Scalar.muli arg0 c2000_i32_1
  let c0_i32_7 : BitVec 32 := 0#32
  ![v5.toNat, 0]
def k0_cond2 (i : grid0.Coords) : BitVec 1 :=
  let arg0 : BitVec 32 := BitVec.ofNat 32 (i 0).val
  let c4_i32_8 : BitVec 32 := 4#32
  let v16 : BitVec 1 := Scalar.cmpi .sge arg0 c4_i32_8
  let v17 : BitVec 32 := Scalar.extui v16
  let c0_i32_9 : BitVec 32 := 0#32
  let v18 : BitVec 1 := Scalar.cmpi .ne v17 c0_i32_9
  v18

def k0_off6 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off7 (i : grid0.Coords) : Fin 2 → Nat :=
  let arg0 : BitVec 32 := BitVec.ofNat 32 (i 0).val
  let c4_i32_29 : BitVec 32 := 4#32
  let v85 : BitVec 32 := Scalar.subi arg0 c4_i32_29
  let c2000_i32_30 : BitVec 32 := 2000#32
  let v86 : BitVec 32 := Scalar.muli v85 c2000_i32_30
  let c0_i32_31 : BitVec 32 := 0#32
  ![v86.toNat, 0]
def k0_off8 (i : grid0.Coords) : Fin 3 → Nat :=
  let arg0 : BitVec 32 := BitVec.ofNat 32 (i 0).val
  let c4_i32 : BitVec 32 := 4#32
  let v0 : BitVec 32 := Scalar.remsi arg0 c4_i32
  let c0_i32_32 : BitVec 32 := 0#32
  let c0_i32_33 : BitVec 32 := 0#32
  ![v0.toNat, 0, 0]
def k0_off9 (i : grid0.Coords) : Fin 3 → Nat :=
  let arg0 : BitVec 32 := BitVec.ofNat 32 (i 0).val
  let c4_i32 : BitVec 32 := 4#32
  let v0 : BitVec 32 := Scalar.remsi arg0 c4_i32
  let v19 : Index := Scalar.indexCast v0
  let c0 : Index := 0#32
  let c0_10 : Index := 0#32
  ![v19.toNat, 0, 0]
def k0_off10 (i : grid0.Coords) : Fin 3 → Nat :=
  let arg0 : BitVec 32 := BitVec.ofNat 32 (i 0).val
  let c4_i32 : BitVec 32 := 4#32
  let v0 : BitVec 32 := Scalar.remsi arg0 c4_i32
  let v23 : Index := Scalar.indexCast v0
  let c0_11 : Index := 0#32
  let c0_12 : Index := 0#32
  ![v23.toNat, 0, 0]
def k0_cond3 (i : grid0.Coords) : BitVec 1 :=
  let arg0 : BitVec 32 := BitVec.ofNat 32 (i 0).val
  let c4_i32_26 : BitVec 32 := 4#32
  let v78 : BitVec 32 := Scalar.addi arg0 c4_i32_26
  let c25_i32 : BitVec 32 := 25#32
  let v79 : BitVec 1 := Scalar.cmpi .slt v78 c25_i32
  let v80 : BitVec 32 := Scalar.extui v79
  let c0_i32_27 : BitVec 32 := 0#32
  let v81 : BitVec 1 := Scalar.cmpi .ne v80 c0_i32_27
  v81

def k0_off11 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off12 (i : grid0.Coords) : Fin 3 → Nat :=
  let arg0 : BitVec 32 := BitVec.ofNat 32 (i 0).val
  let c4_i32 : BitVec 32 := 4#32
  let v0 : BitVec 32 := Scalar.remsi arg0 c4_i32
  let c0_i32_32 : BitVec 32 := 0#32
  let c0_i32_33 : BitVec 32 := 0#32
  ![v0.toNat, 0, 0]
def k0_off13 (i : grid0.Coords) : Fin 2 → Nat :=
  let arg0 : BitVec 32 := BitVec.ofNat 32 (i 0).val
  let c4_i32_29 : BitVec 32 := 4#32
  let v85 : BitVec 32 := Scalar.addi arg0 c4_i32_29
  let c2000_i32_30 : BitVec 32 := 2000#32
  let v86 : BitVec 32 := Scalar.muli v85 c2000_i32_30
  let c0_i32_34 : BitVec 32 := 0#32
  ![v86.toNat, 0]
def k0_off14 (i : grid0.Coords) : Fin 3 → Nat :=
  let arg0 : BitVec 32 := BitVec.ofNat 32 (i 0).val
  let c4_i32 : BitVec 32 := 4#32
  let v0 : BitVec 32 := Scalar.remsi arg0 c4_i32
  let c0_i32_35 : BitVec 32 := 0#32
  let c0_i32_36 : BitVec 32 := 0#32
  ![v0.toNat, 0, 0]
def k0_off15 (i : grid0.Coords) : Fin 2 → Nat :=
  let arg0 : BitVec 32 := BitVec.ofNat 32 (i 0).val
  let c4_i32_29 : BitVec 32 := 4#32
  let v85 : BitVec 32 := Scalar.addi arg0 c4_i32_29
  let c2000_i32_31 : BitVec 32 := 2000#32
  let v87 : BitVec 32 := Scalar.muli v85 c2000_i32_31
  let c0_i32_37 : BitVec 32 := 0#32
  ![v87.toNat, 0]
def k0_cond4 (i : grid0.Coords) : BitVec 1 :=
  let arg0 : BitVec 32 := BitVec.ofNat 32 (i 0).val
  let c24_i32 : BitVec 32 := 24#32
  let v82 : BitVec 1 := Scalar.cmpi .eq arg0 c24_i32
  let v83 : BitVec 32 := Scalar.extui v82
  let c0_i32_28 : BitVec 32 := 0#32
  let v84 : BitVec 1 := Scalar.cmpi .ne v83 c0_i32_28
  v84

def k0_off16 (c23_i32 : BitVec 32) : Fin 1 → Nat :=
  let c4_i32_29 : BitVec 32 := 4#32
  let v85 : BitVec 32 := Scalar.remsi c23_i32 c4_i32_29
  ![v85.toNat]
def k0_off17 (c23_i32 : BitVec 32) : Fin 3 → Nat :=
  let c4_i32_29 : BitVec 32 := 4#32
  let v85 : BitVec 32 := Scalar.remsi c23_i32 c4_i32_29
  let c0_i32_31 : BitVec 32 := 0#32
  let c0_i32_32 : BitVec 32 := 0#32
  ![v85.toNat, 0, 0]
def k0_off18 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off19 (i : grid0.Coords) : Fin 3 → Nat :=
  let arg0 : BitVec 32 := BitVec.ofNat 32 (i 0).val
  let c4_i32 : BitVec 32 := 4#32
  let v0 : BitVec 32 := Scalar.remsi arg0 c4_i32
  let c0_i32_42 : BitVec 32 := 0#32
  let c0_i32_43 : BitVec 32 := 0#32
  ![v0.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S50000x256 : Shape := ⟨2, ![50000, 256]⟩
abbrev S50000 : Shape := ⟨1, ![50000]⟩
abbrev S4x256x256 : Shape := ⟨3, ![4, 256, 256]⟩
abbrev S4x256 : Shape := ⟨2, ![4, 256]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S4x256x256, .f32⟩
  | .hbm, ⟨3, _⟩ => ⟨S4x256, .f32⟩
  | .hbm, ⟨4, _⟩ => ⟨S_, .f32⟩
  | .hbm, ⟨5, _⟩ => ⟨S50000x256, .f32⟩
  | .hbm, ⟨6, _⟩ => ⟨S_, .i32⟩
  | .hbm, ⟨7, _⟩ => ⟨S50000, .i32⟩
  | .hbm, ⟨8, _⟩ => ⟨S50000, .i1⟩
  | .hbm, ⟨9, _⟩ => ⟨S1x256x256, .f32⟩
  | .hbm, ⟨10, _⟩ => ⟨S256x256, .f32⟩
  | .hbm, ⟨11, _⟩ => ⟨S256x256, .f32⟩
  | .hbm, ⟨12, _⟩ => ⟨S50000x256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S50000x1, .i1⟩
  | .hbm, ⟨19, _⟩ => ⟨S50000x256, .i1⟩
  | .hbm, ⟨20, _⟩ => ⟨S50000x256, .f32⟩
  | .hbm, ⟨21, _⟩ => ⟨S_, .i32⟩
  | .hbm, ⟨22, _⟩ => ⟨S50000, .i32⟩
  | .hbm, ⟨23, _⟩ => ⟨S50000, .i1⟩
  | .hbm, ⟨24, _⟩ => ⟨S1x256x256, .f32⟩
  | .hbm, ⟨25, _⟩ => ⟨S256x256, .f32⟩
  | .hbm, ⟨26, _⟩ => ⟨S256x256, .f32⟩
  | .hbm, ⟨27, _⟩ => ⟨S50000x256, .f32⟩
  | .hbm, ⟨28, _⟩ => ⟨S1x256, .f32⟩
  | .hbm, ⟨29, _⟩ => ⟨S256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x1, .i1⟩
  | .hbm, ⟨34, _⟩ => ⟨S50000x256, .i1⟩
  | .hbm, ⟨35, _⟩ => ⟨S50000x256, .f32⟩
  | .hbm, ⟨36, _⟩ => ⟨S_, .i32⟩
  | .hbm, ⟨37, _⟩ => ⟨S50000, .i32⟩
  | .hbm, ⟨38, _⟩ => ⟨S50000, .i1⟩
  | .hbm, ⟨39, _⟩ => ⟨S1x256x256, .f32⟩
  | .hbm, ⟨40, _⟩ => ⟨S256x256, .f32⟩
  | .hbm, ⟨41, _⟩ => ⟨S256x256, .f32⟩
  | .hbm, ⟨42, _⟩ => ⟨S50000x256, .f32⟩
  | .hbm, ⟨43, _⟩ => ⟨S1x256, .f32⟩
  | .hbm, ⟨44, _⟩ => ⟨S256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S50000x1, .i1⟩
  | .hbm, ⟨49, _⟩ => ⟨S50000x256, .i1⟩
  | .hbm, ⟨50, _⟩ => ⟨S50000x256, .f32⟩
  | .hbm, ⟨51, _⟩ => ⟨S_, .i32⟩
  | .hbm, ⟨52, _⟩ => ⟨S50000, .i32⟩
  | .hbm, ⟨53, _⟩ => ⟨S50000, .i1⟩
  | .hbm, ⟨54, _⟩ => ⟨S1x256x256, .f32⟩
  | .hbm, ⟨55, _⟩ => ⟨S256x256, .f32⟩
  | .hbm, ⟨56, _⟩ => ⟨S256x256, .f32⟩
  | .hbm, ⟨57, _⟩ => ⟨S50000x256, .f32⟩
  | .hbm, ⟨58, _⟩ => ⟨S1x256, .f32⟩
  | .hbm, ⟨59, _⟩ => ⟨S256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S50000x1, .i1⟩
  | .hbm, ⟨64, _⟩ => ⟨S50000x256, .i1⟩
  | .hbm, ⟨65, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call1_v0 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call2_v0 : Ref sig .tc := ⟨.hbm, 49, rfl⟩
abbrev main_v39 : Ref sig .tc := ⟨.hbm, 50, rfl⟩
abbrev main_c_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call3_v0 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Proof.Names.lean ====
/-
  The names of the pieces the kernel moves: block `b` of the rows, of the types and of the result (2000 rows each,
  25 blocks), slot `s` of each of the three four-slot buffers, and each slot's transfer semaphore; and the equations
  that rewrite every slice the body takes to one of these names.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Rows

open Cert.KernelIdeal Cert.KernelIdeal.Gen
open Idealize.ShloMosaic
open Idealize.ShloMosaic.TcCoe Idealize.ShloMosaic.Tactic

/-! ## Offsets of the pieces -/

/-- Where block `b` starts in an array of 50000 rows. -/
abbrev rowOff (b : Fin 25) : Fin 2 → Nat := ![2000 * b.val, 0]
/-- Where slot `s` starts in a buffer of four slots. -/
abbrev slotOff (s : Fin 4) : Fin 3 → Nat := ![s.val, 0, 0]
/-- Where the semaphore of slot `s` stands among the four. -/
abbrev semOff (s : Fin 4) : Fin 1 → Nat := ![s.val]

/-- A block of the wide arrays lies inside them. -/
theorem rowOff_inb_wide (b : Fin 25) : ∀ a, rowOff b a + S2000x256.size a ≤ S50000x256.size a := by
  have := b.isLt; intro a; fin_cases a
  · show 2000 * b.val + 2000 ≤ 50000; omega
  · show 0 + 256 ≤ 256; omega
/-- A block of the type column lies inside it. -/
theorem rowOff_inb_col (b : Fin 25) : ∀ a, rowOff b a + S2000x1.size a ≤ S50000x1.size a := by
  have := b.isLt; intro a; fin_cases a
  · show 2000 * b.val + 2000 ≤ 50000; omega
  · show 0 + 1 ≤ 1; omega
/-- A slot of a wide buffer lies inside it. -/
theorem slotOff_inb_wide (s : Fin 4) : ∀ a, slotOff s a + S1x2000x256.size a ≤ S4x2000x256.size a := by
  have := s.isLt; intro a; fin_cases a
  · show s.val + 1 ≤ 4; omega
  · show 0 + 2000 ≤ 2000; omega
  · show 0 + 256 ≤ 256; omega
/-- A slot of the type buffer lies inside it. -/
theorem slotOff_inb_col (s : Fin 4) : ∀ a, slotOff s a + S1x2000x1.size a ≤ S4x2000x1.size a := by
  have := s.isLt; intro a; fin_cases a
  · show s.val + 1 ≤ 4; omega
  · show 0 + 2000 ≤ 2000; omega
  · show 0 + 1 ≤ 1; omega
/-- A slot's semaphore is one of the four. -/
theorem semOff_inb (s : Fin 4) : ∀ a, semOff s a + S1.size a ≤ S4.size a := by
  have := s.isLt; intro a; fin_cases a; show s.val + 1 ≤ 4; omega

/-! ## The pieces -/

/-- Block `b` of the rows. -/
def xBlk (b : Fin 25) : Memref sig .tc .hbm S2000x256 .f32 :=
  (Memref.whole main_arg0 : Memref sig .tc .hbm S50000x256 .f32).slice (Rect.unit (s := S50000x256) (rowOff b) S2000x256.size (rowOff_inb_wide b)) (fun _ => rfl)
/-- Block `b` of the type column. -/
def tBlk (b : Fin 25) : Memref sig .tc .hbm S2000x1 .i32 :=
  (Memref.whole main_v0 : Memref sig .tc .hbm S50000x1 .i32).slice (Rect.unit (s := S50000x1) (rowOff b) S2000x1.size (rowOff_inb_col b)) (fun _ => rfl)
/-- Block `b` of the result. -/
def oBlk (b : Fin 25) : Memref sig .tc .hbm S2000x256 .f32 :=
  (Memref.whole main_v5 : Memref sig .tc .hbm S50000x256 .f32).slice (Rect.unit (s := S50000x256) (rowOff b) S2000x256.size (rowOff_inb_wide b)) (fun _ => rfl)
/-- Slot `s` of the row buffer. -/
def xSlot (s : Fin 4) : Memref sig .tc .vmem S2000x256 .f32 :=
  ((Memref.whole cc0_scratch0 : Memref sig .tc .vmem S4x2000x256 .f32).slice (Rect.unit (s := S4x2000x256) (slotOff s) S1x2000x256.size (slotOff_inb_wide s)) (fun _ => rfl)).squeeze S2000x256 squeezes_S1x2000x256_S2000x256
/-- Slot `s` of the type buffer. -/
def tSlot (s : Fin 4) : Memref sig .tc .vmem S2000x1 .i32 :=
  ((Memref.whole cc0_scratch1 : Memref sig .tc .vmem S4x2000x1 .i32).slice (Rect.unit (s := S4x2000x1) (slotOff s) S1x2000x1.size (slotOff_inb_col s)) (fun _ => rfl)).squeeze S2000x1 squeezes_S1x2000x1_S2000x1
/-- Slot `s` of the result buffer. -/
def oSlot (s : Fin 4) : Memref sig .tc .vmem S2000x256 .f32 :=
  ((Memref.whole cc0_scratch2 : Memref sig .tc .vmem S4x2000x256 .f32).slice (Rect.unit (s := S4x2000x256) (slotOff s) S1x2000x256.size (slotOff_inb_wide s)) (fun _ => rfl)).squeeze S2000x256 squeezes_S1x2000x256_S2000x256
/-- The semaphore of row slot `s`. -/
def xSem (s : Fin 4) : DmaSems sig S_ := ((cc0_scratch3 : DmaSems sig S4).slice (Rect.unit (s := S4) (semOff s) S1.size (semOff_inb s))).squeeze S_ squeezes_S1_S_
/-- The semaphore of type slot `s`. -/
def tSem (s : Fin 4) : DmaSems sig S_ := ((cc0_scratch4 : DmaSems sig S4).slice (Rect.unit (s := S4) (semOff s) S1.size (semOff_inb s))).squeeze S_ squeezes_S1_S_
/-- The semaphore of result slot `s`. -/
def oSem (s : Fin 4) : DmaSems sig S_ := ((cc0_scratch5 : DmaSems sig S4).slice (Rect.unit (s := S4) (semOff s) S1.size (semOff_inb s))).squeeze S_ squeezes_S1_S_

/-- A slot's offset is in closed form. -/
instance (s : Fin 4) : ClosedOff (slotOff s) := ⟨slotOff s, rfl⟩
/-- A block's offset is in closed form. -/
instance (b : Fin 25) : ClosedOff (rowOff b) := ⟨rowOff b, rfl⟩
/-- A semaphore's offset is in closed form. -/
instance (s : Fin 4) : ClosedOff (semOff s) := ⟨semOff s, rfl⟩

/-! ## The computed offsets are the pieces' -/

section Offs
variable (i : grid0.Coords)

/-- A point's coordinate is below 25. -/
theorem coord_lt : (i 0).val < 25 := (i 0).isLt
/-- The slot of block `k` is `k` modulo four. -/
theorem sl_val (k : Nat) : (Ring.sl 4 k).val = k % 4 := rfl

/-- A slot's closed form is the slot's offset. -/
theorem slotC : (![((i 0).val % 4), 0, 0] : Fin 3 → Nat) = slotOff (Ring.sl 4 (i 0).val) := rfl
/-- A semaphore's closed form is its slot's offset. -/
theorem semC : (![((i 0).val % 4)] : Fin 1 → Nat) = semOff (Ring.sl 4 (i 0).val) := rfl
/-- The closed form of the point's own block is the block's offset. -/
theorem rowC : (![2000 * (i 0).val, 0] : Fin 2 → Nat) = rowOff (Ring.bk 25 (i 0).val) := by
  unfold rowOff; rw [Ring.bk_val (coord_lt i)]
/-- The closed form of the block four points ahead is that block's offset. -/
theorem rowC4 (h : (i 0).val + 4 < 25) : (![2000 * (i 0).val + 8000, 0] : Fin 2 → Nat) = rowOff (Ring.bk 25 ((i 0).val + 4)) := by
  unfold rowOff; rw [Ring.bk_val h, show 2000 * ((i 0).val + 4) = 2000 * (i 0).val + 8000 by omega]
/-- The closed form of the block waited out four points late. -/
theorem off7_eq : ∀ i : grid0.Coords, k0_cond2 i = 1#1 → k0_off7 i = rowOff (Ring.bk 25 ((i 0).val - 4)) := by decide +kernel
/-- The last write-out's semaphore stands at the point's slot. -/
theorem off18_eq : ∀ i : grid0.Coords, k0_off18 i = ![((i 0).val % 4)] := by decide +kernel
/-- The last write-out's slot is the point's slot. -/
theorem off19_eq : ∀ i : grid0.Coords, k0_off19 i = ![((i 0).val % 4), 0, 0] := by decide +kernel

/-! ## Where each branch is taken -/

/-- An earlier result is collected from the fifth point on. -/
theorem cond2_iff : ∀ i : grid0.Coords, k0_cond2 i = 1#1 ↔ 4 ≤ (i 0).val := by decide +kernel
/-- A block is fetched ahead as long as there is one four points on. -/
theorem cond3_iff : ∀ i : grid0.Coords, k0_cond3 i = 1#1 ↔ (i 0).val + 4 < 25 := by decide +kernel
/-- The last point is the one that drains. -/
theorem cond4_iff : ∀ i : grid0.Coords, k0_cond4 i = 1#1 ↔ (i 0).val = 24 := by decide +kernel

end Offs

/-! ## The equations of names -/

section Canon
variable (i : grid0.Coords)

/-- A slice at the offset of a block of the rows is that piece, by name. -/
theorem xBlk_congr {off : Fin 2 → Nat} {b : Fin 25} (e : off = rowOff b) (hh hs) :
    (Memref.whole main_arg0 : Memref sig .tc .hbm S50000x256 .f32).slice (Rect.unit (s := S50000x256) off S2000x256.size hh) hs = xBlk b :=
  Memref.slice_unit_congr _ e _ _ _ (fun _ => rfl)
/-- A slice at the offset of a block of the types is that piece, by name. -/
theorem tBlk_congr {off : Fin 2 → Nat} {b : Fin 25} (e : off = rowOff b) (hh hs) :
    (Memref.whole main_v0 : Memref sig .tc .hbm S50000x1 .i32).slice (Rect.unit (s := S50000x1) off S2000x1.size hh) hs = tBlk b :=
  Memref.slice_unit_congr _ e _ _ _ (fun _ => rfl)
/-- A slice at the offset of a block of the result is that piece, by name. -/
theorem oBlk_congr {off : Fin 2 → Nat} {b : Fin 25} (e : off = rowOff b) (hh hs) :
    (Memref.whole main_v5 : Memref sig .tc .hbm S50000x256 .f32).slice (Rect.unit (s := S50000x256) off S2000x256.size hh) hs = oBlk b :=
  Memref.slice_unit_congr _ e _ _ _ (fun _ => rfl)
/-- A slice at the offset of a slot of the row buffer is that piece, by name. -/
theorem xSlot_congr {off : Fin 3 → Nat} {s : Fin 4} (e : off = slotOff s) (hh hs) :
    ((Memref.whole cc0_scratch0 : Memref sig .tc .vmem S4x2000x256 .f32).slice (Rect.unit (s := S4x2000x256) off S1x2000x256.size hh) hs).squeeze S2000x256 squeezes_S1x2000x256_S2000x256 = xSlot s :=
  congrArg (fun M : Memref sig .tc .vmem S1x2000x256 .f32 => M.squeeze S2000x256 squeezes_S1x2000x256_S2000x256) (Memref.slice_unit_congr _ e _ _ _ _)
/-- A slice at the offset of a slot of the type buffer is that piece, by name. -/
theorem tSlot_congr {off : Fin 3 → Nat} {s : Fin 4} (e : off = slotOff s) (hh hs) :
    ((Memref.whole cc0_scratch1 : Memref sig .tc .vmem S4x2000x1 .i32).slice (Rect.unit (s := S4x2000x1) off S1x2000x1.size hh) hs).squeeze S2000x1 squeezes_S1x2000x1_S2000x1 = tSlot s :=
  congrArg (fun M : Memref sig .tc .vmem S1x2000x1 .i32 => M.squeeze S2000x1 squeezes_S1x2000x1_S2000x1) (Memref.slice_unit_congr _ e _ _ _ _)
/-- A slice at the offset of a slot of the result buffer is that piece, by name. -/
theorem oSlot_congr {off : Fin 3 → Nat} {s : Fin 4} (e : off = slotOff s) (hh hs) :
    ((Memref.whole cc0_scratch2 : Memref sig .tc .vmem S4x2000x256 .f32).slice (Rect.unit (s := S4x2000x256) off S1x2000x256.size hh) hs).squeeze S2000x256 squeezes_S1x2000x256_S2000x256 = oSlot s :=
  congrArg (fun M : Memref sig .tc .vmem S1x2000x256 .f32 => M.squeeze S2000x256 squeezes_S1x2000x256_S2000x256) (Memref.slice_unit_congr _ e _ _ _ _)
/-- A slice at the offset of a semaphore of the row slots is that piece, by name. -/
theorem xSem_congr {off : Fin 1 → Nat} {s : Fin 4} (e : off = semOff s) (hh) :
    ((cc0_scratch3 : DmaSems sig S4).slice (Rect.unit (s := S4) off S1.size hh)).squeeze S_ squeezes_S1_S_ = xSem s :=
  congrArg (fun A : DmaSems sig S1 => A.squeeze S_ squeezes_S1_S_) (SemArray.slice_unit_congr _ e _ _)
/-- A slice at the offset of a semaphore of the type slots is that piece, by name. -/
theorem tSem_congr {off : Fin 1 → Nat} {s : Fin 4} (e : off = semOff s) (hh) :
    ((cc0_scratch4 : DmaSems sig S4).slice (Rect.unit (s := S4) off S1.size hh)).squeeze S_ squeezes_S1_S_ = tSem s :=
  congrArg (fun A : DmaSems sig S1 => A.squeeze S_ squeezes_S1_S_) (SemArray.slice_unit_congr _ e _ _)
/-- A slice at the offset of a semaphore of the result slots is that piece, by name. -/
theorem oSem_congr {off : Fin 1 → Nat} {s : Fin 4} (e : off = semOff s) (hh) :
    ((cc0_scratch5 : DmaSems sig S4).slice (Rect.unit (s := S4) off S1.size hh)).squeeze S_ squeezes_S1_S_ = oSem s :=
  congrArg (fun A : DmaSems sig S1 => A.squeeze S_ squeezes_S1_S_) (SemArray.slice_unit_congr _ e _ _)

/-! ### The first point's literal slices -/

/-- The block of the rows numbered 0, as the first point spells it. -/
@[sl_canon] theorem xBlkL0 (hh hs) :
    (Memref.whole main_arg0 : Memref sig .tc .hbm S50000x256 .f32).slice (Rect.unit (s := S50000x256) ![0, 0] S2000x256.size hh) hs = xBlk 0 := xBlk_congr (b := 0) (by decide) _ _
/-- The block of the types numbered 0, as the first point spells it. -/
@[sl_canon] theorem tBlkL0 (hh hs) :
    (Memref.whole main_v0 : Memref sig .tc .hbm S50000x1 .i32).slice (Rect.unit (s := S50000x1) ![0, 0] S2000x1.size hh) hs = tBlk 0 := tBlk_congr (b := 0) (by decide) _ _
/-- The slot of the row buffer numbered 0, as the first point spells it. -/
@[sl_canon] theorem xSlotL0 (hh hs) :
    ((Memref.whole cc0_scratch0 : Memref sig .tc .vmem S4x2000x256 .f32).slice (Rect.unit (s := S4x2000x256) ![0, 0, 0] S1x2000x256.size hh) hs).squeeze S2000x256 squeezes_S1x2000x256_S2000x256 = xSlot 0 := xSlot_congr (s := 0) (by decide) _ _
/-- The slot of the type buffer numbered 0, as the first point spells it. -/
@[sl_canon] theorem tSlotL0 (hh hs) :
    ((Memref.whole cc0_scratch1 : Memref sig .tc .vmem S4x2000x1 .i32).slice (Rect.unit (s := S4x2000x1) ![0, 0, 0] S1x2000x1.size hh) hs).squeeze S2000x1 squeezes_S1x2000x1_S2000x1 = tSlot 0 := tSlot_congr (s := 0) (by decide) _ _
/-- The semaphore of the row slots numbered 0, as the first point spells it. -/
@[sl_canon] theorem xSemL0 (hh) :
    ((cc0_scratch3 : DmaSems sig S4).slice (Rect.unit (s := S4) ![0] S1.size hh)).squeeze S_ squeezes_S1_S_ = xSem 0 := xSem_congr (s := 0) (by decide) _
/-- The semaphore of the type slots numbered 0, as the first point spells it. -/
@[sl_canon] theorem tSemL0 (hh) :
    ((cc0_scratch4 : DmaSems sig S4).slice (Rect.unit (s := S4) ![0] S1.size hh)).squeeze S_ squeezes_S1_S_ = tSem 0 := tSem_congr (s := 0) (by decide) _
/-- The block of the rows numbered 1, as the first point spells it. -/
@[sl_canon] theorem xBlkL1 (hh hs) :
    (Memref.whole main_arg0 : Memref sig .tc .hbm S50000x256 .f32).slice (Rect.unit (s := S50000x256) ![2000, 0] S2000x256.size hh) hs = xBlk 1 := xBlk_congr (b := 1) (by decide) _ _
/-- The block of the types numbered 1, as the first point spells it. -/
@[sl_canon] theorem tBlkL1 (hh hs) :
    (Memref.whole main_v0 : Memref sig .tc .hbm S50000x1 .i32).slice (Rect.unit (s := S50000x1) ![2000, 0] S2000x1.size hh) hs = tBlk 1 := tBlk_congr (b := 1) (by decide) _ _
/-- The slot of the row buffer numbered 1, as the first point spells it. -/
@[sl_canon] theorem xSlotL1 (hh hs) :
    ((Memref.whole cc0_scratch0 : Memref sig .tc .vmem S4x2000x256 .f32).slice (Rect.unit (s := S4x2000x256) ![1, 0, 0] S1x2000x256.size hh) hs).squeeze S2000x256 squeezes_S1x2000x256_S2000x256 = xSlot 1 := xSlot_congr (s := 1) (by decide) _ _
/-- The slot of the type buffer numbered 1, as the first point spells it. -/
@[sl_canon] theorem tSlotL1 (hh hs) :
    ((Memref.whole cc0_scratch1 : Memref sig .tc .vmem S4x2000x1 .i32).slice (Rect.unit (s := S4x2000x1) ![1, 0, 0] S1x2000x1.size hh) hs).squeeze S2000x1 squeezes_S1x2000x1_S2000x1 = tSlot 1 := tSlot_congr (s := 1) (by decide) _ _
/-- The semaphore of the row slots numbered 1, as the first point spells it. -/
@[sl_canon] theorem xSemL1 (hh) :
    ((cc0_scratch3 : DmaSems sig S4).slice (Rect.unit (s := S4) ![1] S1.size hh)).squeeze S_ squeezes_S1_S_ = xSem 1 := xSem_congr (s := 1) (by decide) _
/-- The semaphore of the type slots numbered 1, as the first point spells it. -/
@[sl_canon] theorem tSemL1 (hh) :
    ((cc0_scratch4 : DmaSems sig S4).slice (Rect.unit (s := S4) ![1] S1.size hh)).squeeze S_ squeezes_S1_S_ = tSem 1 := tSem_congr (s := 1) (by decide) _
/-- The block of the rows numbered 2, as the first point spells it. -/
@[sl_canon] theorem xBlkL2 (hh hs) :
    (Memref.whole main_arg0 : Memref sig .tc .hbm S50000x256 .f32).slice (Rect.unit (s := S50000x256) ![4000, 0] S2000x256.size hh) hs = xBlk 2 := xBlk_congr (b := 2) (by decide) _ _
/-- The block of the types numbered 2, as the first point spells it. -/
@[sl_canon] theorem tBlkL2 (hh hs) :
    (Memref.whole main_v0 : Memref sig .tc .hbm S50000x1 .i32).slice (Rect.unit (s := S50000x1) ![4000, 0] S2000x1.size hh) hs = tBlk 2 := tBlk_congr (b := 2) (by decide) _ _
/-- The slot of the row buffer numbered 2, as the first point spells it. -/
@[sl_canon] theorem xSlotL2 (hh hs) :
    ((Memref.whole cc0_scratch0 : Memref sig .tc .vmem S4x2000x256 .f32).slice (Rect.unit (s := S4x2000x256) ![2, 0, 0] S1x2000x256.size hh) hs).squeeze S2000x256 squeezes_S1x2000x256_S2000x256 = xSlot 2 := xSlot_congr (s := 2) (by decide) _ _
/-- The slot of the type buffer numbered 2, as the first point spells it. -/
@[sl_canon] theorem tSlotL2 (hh hs) :
    ((Memref.whole cc0_scratch1 : Memref sig .tc .vmem S4x2000x1 .i32).slice (Rect.unit (s := S4x2000x1) ![2, 0, 0] S1x2000x1.size hh) hs).squeeze S2000x1 squeezes_S1x2000x1_S2000x1 = tSlot 2 := tSlot_congr (s := 2) (by decide) _ _
/-- The semaphore of the row slots numbered 2, as the first point spells it. -/
@[sl_canon] theorem xSemL2 (hh) :
    ((cc0_scratch3 : DmaSems sig S4).slice (Rect.unit (s := S4) ![2] S1.size hh)).squeeze S_ squeezes_S1_S_ = xSem 2 := xSem_congr (s := 2) (by decide) _
/-- The semaphore of the type slots numbered 2, as the first point spells it. -/
@[sl_canon] theorem tSemL2 (hh) :
    ((cc0_scratch4 : DmaSems sig S4).slice (Rect.unit (s := S4) ![2] S1.size hh)).squeeze S_ squeezes_S1_S_ = tSem 2 := tSem_congr (s := 2) (by decide) _
/-- The block of the rows numbered 3, as the first point spells it. -/
@[sl_canon] theorem xBlkL3 (hh hs) :
    (Memref.whole main_arg0 : Memref sig .tc .hbm S50000x256 .f32).slice (Rect.unit (s := S50000x256) ![6000, 0] S2000x256.size hh) hs = xBlk 3 := xBlk_congr (b := 3) (by decide) _ _
/-- The block of the types numbered 3, as the first point spells it. -/
@[sl_canon] theorem tBlkL3 (hh hs) :
    (Memref.whole main_v0 : Memref sig .tc .hbm S50000x1 .i32).slice (Rect.unit (s := S50000x1) ![6000, 0] S2000x1.size hh) hs = tBlk 3 := tBlk_congr (b := 3) (by decide) _ _
/-- The slot of the row buffer numbered 3, as the first point spells it. -/
@[sl_canon] theorem xSlotL3 (hh hs) :
    ((Memref.whole cc0_scratch0 : Memref sig .tc .vmem S4x2000x256 .f32).slice (Rect.unit (s := S4x2000x256) ![3, 0, 0] S1x2000x256.size hh) hs).squeeze S2000x256 squeezes_S1x2000x256_S2000x256 = xSlot 3 := xSlot_congr (s := 3) (by decide) _ _
/-- The slot of the type buffer numbered 3, as the first point spells it. -/
@[sl_canon] theorem tSlotL3 (hh hs) :
    ((Memref.whole cc0_scratch1 : Memref sig .tc .vmem S4x2000x1 .i32).slice (Rect.unit (s := S4x2000x1) ![3, 0, 0] S1x2000x1.size hh) hs).squeeze S2000x1 squeezes_S1x2000x1_S2000x1 = tSlot 3 := tSlot_congr (s := 3) (by decide) _ _
/-- The semaphore of the row slots numbered 3, as the first point spells it. -/
@[sl_canon] theorem xSemL3 (hh) :
    ((cc0_scratch3 : DmaSems sig S4).slice (Rect.unit (s := S4) ![3] S1.size hh)).squeeze S_ squeezes_S1_S_ = xSem 3 := xSem_congr (s := 3) (by decide) _
/-- The semaphore of the type slots numbered 3, as the first point spells it. -/
@[sl_canon] theorem tSemL3 (hh) :
    ((cc0_scratch4 : DmaSems sig S4).slice (Rect.unit (s := S4) ![3] S1.size hh)).squeeze S_ squeezes_S1_S_ = tSem 3 := tSem_congr (s := 3) (by decide) _

/-! ### A point's waits, its write-out and its look-ahead -/

/-- The semaphore of the row slots of the point, as its offset number 1 spells it. -/
@[sl_canon] theorem xSemO1 (hh) :
    ((cc0_scratch3 : DmaSems sig S4).slice (Rect.unit (s := S4) (k0_off1 i) S1.size hh)).squeeze S_ squeezes_S1_S_ = xSem (Ring.sl 4 (i 0).val) := xSem_congr ((k0_off1_eq i).trans (semC i)) _
/-- The semaphore of the row slots of the point, as its offset number 11 spells it. -/
@[sl_canon] theorem xSemO11 (hh) :
    ((cc0_scratch3 : DmaSems sig S4).slice (Rect.unit (s := S4) (k0_off11 i) S1.size hh)).squeeze S_ squeezes_S1_S_ = xSem (Ring.sl 4 (i 0).val) := xSem_congr ((k0_off11_eq i).trans (semC i)) _
/-- The semaphore of the type slots of the point, as its offset number 1 spells it. -/
@[sl_canon] theorem tSemO1 (hh) :
    ((cc0_scratch4 : DmaSems sig S4).slice (Rect.unit (s := S4) (k0_off1 i) S1.size hh)).squeeze S_ squeezes_S1_S_ = tSem (Ring.sl 4 (i 0).val) := tSem_congr ((k0_off1_eq i).trans (semC i)) _
/-- The semaphore of the type slots of the point, as its offset number 11 spells it. -/
@[sl_canon] theorem tSemO11 (hh) :
    ((cc0_scratch4 : DmaSems sig S4).slice (Rect.unit (s := S4) (k0_off11 i) S1.size hh)).squeeze S_ squeezes_S1_S_ = tSem (Ring.sl 4 (i 0).val) := tSem_congr ((k0_off11_eq i).trans (semC i)) _
/-- The semaphore of the result slots of the point, as its offset number 1 spells it. -/
@[sl_canon] theorem oSemO1 (hh) :
    ((cc0_scratch5 : DmaSems sig S4).slice (Rect.unit (s := S4) (k0_off1 i) S1.size hh)).squeeze S_ squeezes_S1_S_ = oSem (Ring.sl 4 (i 0).val) := oSem_congr ((k0_off1_eq i).trans (semC i)) _
/-- The semaphore of the result slots of the point, as its offset number 6 spells it. -/
@[sl_canon] theorem oSemO6 (hh) :
    ((cc0_scratch5 : DmaSems sig S4).slice (Rect.unit (s := S4) (k0_off6 i) S1.size hh)).squeeze S_ squeezes_S1_S_ = oSem (Ring.sl 4 (i 0).val) := oSem_congr ((k0_off6_eq i).trans (semC i)) _
/-- The semaphore of the result slots of the point, as its offset number 18 spells it. -/
@[sl_canon] theorem oSemO18 (hh) :
    ((cc0_scratch5 : DmaSems sig S4).slice (Rect.unit (s := S4) (k0_off18 i) S1.size hh)).squeeze S_ squeezes_S1_S_ = oSem (Ring.sl 4 (i 0).val) := oSem_congr ((off18_eq i).trans (semC i)) _
/-- The slot of the row buffer of the point, as its offset number 2 spells it. -/
@[sl_canon] theorem xSlotO2 (hh hs) :
    ((Memref.whole cc0_scratch0 : Memref sig .tc .vmem S4x2000x256 .f32).slice (Rect.unit (s := S4x2000x256) (k0_off2 i) S1x2000x256.size hh) hs).squeeze S2000x256 squeezes_S1x2000x256_S2000x256 = xSlot (Ring.sl 4 (i 0).val) := xSlot_congr ((k0_off2_eq i).trans (slotC i)) _ _
/-- The slot of the row buffer of the point, as its offset number 12 spells it. -/
@[sl_canon] theorem xSlotO12 (hh hs) :
    ((Memref.whole cc0_scratch0 : Memref sig .tc .vmem S4x2000x256 .f32).slice (Rect.unit (s := S4x2000x256) (k0_off12 i) S1x2000x256.size hh) hs).squeeze S2000x256 squeezes_S1x2000x256_S2000x256 = xSlot (Ring.sl 4 (i 0).val) := xSlot_congr ((k0_off12_eq i).trans (slotC i)) _ _
/-- The slot of the type buffer of the point, as its offset number 4 spells it. -/
@[sl_canon] theorem tSlotO4 (hh hs) :
    ((Memref.whole cc0_scratch1 : Memref sig .tc .vmem S4x2000x1 .i32).slice (Rect.unit (s := S4x2000x1) (k0_off4 i) S1x2000x1.size hh) hs).squeeze S2000x1 squeezes_S1x2000x1_S2000x1 = tSlot (Ring.sl 4 (i 0).val) := tSlot_congr ((k0_off4_eq i).trans (slotC i)) _ _
/-- The slot of the type buffer of the point, as its offset number 14 spells it. -/
@[sl_canon] theorem tSlotO14 (hh hs) :
    ((Memref.whole cc0_scratch1 : Memref sig .tc .vmem S4x2000x1 .i32).slice (Rect.unit (s := S4x2000x1) (k0_off14 i) S1x2000x1.size hh) hs).squeeze S2000x1 squeezes_S1x2000x1_S2000x1 = tSlot (Ring.sl 4 (i 0).val) := tSlot_congr ((k0_off14_eq i).trans (slotC i)) _ _
/-- The slot of the result buffer of the point, as its offset number 2 spells it. -/
@[sl_canon] theorem oSlotO2 (hh hs) :
    ((Memref.whole cc0_scratch2 : Memref sig .tc .vmem S4x2000x256 .f32).slice (Rect.unit (s := S4x2000x256) (k0_off2 i) S1x2000x256.size hh) hs).squeeze S2000x256 squeezes_S1x2000x256_S2000x256 = oSlot (Ring.sl 4 (i 0).val) := oSlot_congr ((k0_off2_eq i).trans (slotC i)) _ _
/-- The slot of the result buffer of the point, as its offset number 8 spells it. -/
@[sl_canon] theorem oSlotO8 (hh hs) :
    ((Memref.whole cc0_scratch2 : Memref sig .tc .vmem S4x2000x256 .f32).slice (Rect.unit (s := S4x2000x256) (k0_off8 i) S1x2000x256.size hh) hs).squeeze S2000x256 squeezes_S1x2000x256_S2000x256 = oSlot (Ring.sl 4 (i 0).val) := oSlot_congr ((k0_off8_eq i).trans (slotC i)) _ _
/-- The slot of the result buffer of the point, as its offset number 19 spells it. -/
@[sl_canon] theorem oSlotO19 (hh hs) :
    ((Memref.whole cc0_scratch2 : Memref sig .tc .vmem S4x2000x256 .f32).slice (Rect.unit (s := S4x2000x256) (k0_off19 i) S1x2000x256.size hh) hs).squeeze S2000x256 squeezes_S1x2000x256_S2000x256 = oSlot (Ring.sl 4 (i 0).val) := oSlot_congr ((off19_eq i).trans (slotC i)) _ _
/-- The block of the rows of the point, as its offset number 3 spells it. -/
@[sl_canon] theorem xBlkO3 (hh hs) :
    (Memref.whole main_arg0 : Memref sig .tc .hbm S50000x256 .f32).slice (Rect.unit (s := S50000x256) (k0_off3 i) S2000x256.size hh) hs = xBlk (Ring.bk 25 (i 0).val) := xBlk_congr ((k0_off3_eq i).trans (rowC i)) _ _
/-- The block of the types of the point, as its offset number 5 spells it. -/
@[sl_canon] theorem tBlkO5 (hh hs) :
    (Memref.whole main_v0 : Memref sig .tc .hbm S50000x1 .i32).slice (Rect.unit (s := S50000x1) (k0_off5 i) S2000x1.size hh) hs = tBlk (Ring.bk 25 (i 0).val) := tBlk_congr ((k0_off5_eq i).trans (rowC i)) _ _
/-- The block of the result of the point, as its offset number 3 spells it. -/
@[sl_canon] theorem oBlkO3 (hh hs) :
    (Memref.whole main_v5 : Memref sig .tc .hbm S50000x256 .f32).slice (Rect.unit (s := S50000x256) (k0_off3 i) S2000x256.size hh) hs = oBlk (Ring.bk 25 (i 0).val) := oBlk_congr ((k0_off3_eq i).trans (rowC i)) _ _
/-- The block of the rows fetched four points ahead. -/
@[sl_canon] theorem xBlkO13 (h : (i 0).val + 4 < 25) (hh hs) :
    (Memref.whole main_arg0 : Memref sig .tc .hbm S50000x256 .f32).slice (Rect.unit (s := S50000x256) (k0_off13 i) S2000x256.size hh) hs = xBlk (Ring.bk 25 ((i 0).val + 4)) := xBlk_congr ((k0_off13_eq i).trans (rowC4 i h)) _ _
/-- The block of the types fetched four points ahead. -/
@[sl_canon] theorem tBlkO15 (h : (i 0).val + 4 < 25) (hh hs) :
    (Memref.whole main_v0 : Memref sig .tc .hbm S50000x1 .i32).slice (Rect.unit (s := S50000x1) (k0_off15 i) S2000x1.size hh) hs = tBlk (Ring.bk 25 ((i 0).val + 4)) := tBlk_congr ((k0_off15_eq i).trans (rowC4 i h)) _ _
/-- The block of the result collected four points late. -/
@[sl_canon] theorem oBlkO7 (h : k0_cond2 i = 1#1) (hh hs) :
    (Memref.whole main_v5 : Memref sig .tc .hbm S50000x256 .f32).slice (Rect.unit (s := S50000x256) (k0_off7 i) S2000x256.size hh) hs = oBlk (Ring.bk 25 ((i 0).val - 4)) := oBlk_congr (off7_eq i h) _ _

/-! ### The last point's drain -/

/-- The semaphore of the result slots drained for block 21. -/
@[sl_canon] theorem oSemD21 (hh) :
    ((cc0_scratch5 : DmaSems sig S4).slice (Rect.unit (s := S4) (k0_off16 21#32) S1.size hh)).squeeze S_ squeezes_S1_S_ = oSem 1 := oSem_congr (s := 1) (k0_off16_eq 0) _
/-- The slot of the result buffer drained for block 21. -/
@[sl_canon] theorem oSlotD21 (hh hs) :
    ((Memref.whole cc0_scratch2 : Memref sig .tc .vmem S4x2000x256 .f32).slice (Rect.unit (s := S4x2000x256) (k0_off17 21#32) S1x2000x256.size hh) hs).squeeze S2000x256 squeezes_S1x2000x256_S2000x256 = oSlot 1 := oSlot_congr (s := 1) (k0_off17_eq 0) _ _
/-- The block of the result numbered 21, as the drain spells it. -/
@[sl_canon] theorem oBlkD21 (hh hs) :
    (Memref.whole main_v5 : Memref sig .tc .hbm S50000x256 .f32).slice (Rect.unit (s := S50000x256) ![42000, 0] S2000x256.size hh) hs = oBlk 21 := oBlk_congr (b := 21) (by decide) _ _
/-- The semaphore of the result slots drained for block 22. -/
@[sl_canon] theorem oSemD22 (hh) :
    ((cc0_scratch5 : DmaSems sig S4).slice (Rect.unit (s := S4) (k0_off16 22#32) S1.size hh)).squeeze S_ squeezes_S1_S_ = oSem 2 := oSem_congr (s := 2) (k0_off16_eq 1) _
/-- The slot of the result buffer drained for block 22. -/
@[sl_canon] theorem oSlotD22 (hh hs) :
    ((Memref.whole cc0_scratch2 : Memref sig .tc .vmem S4x2000x256 .f32).slice (Rect.unit (s := S4x2000x256) (k0_off17 22#32) S1x2000x256.size hh) hs).squeeze S2000x256 squeezes_S1x2000x256_S2000x256 = oSlot 2 := oSlot_congr (s := 2) (k0_off17_eq 1) _ _
/-- The block of the result numbered 22, as the drain spells it. -/
@[sl_canon] theorem oBlkD22 (hh hs) :
    (Memref.whole main_v5 : Memref sig .tc .hbm S50000x256 .f32).slice (Rect.unit (s := S50000x256) ![44000, 0] S2000x256.size hh) hs = oBlk 22 := oBlk_congr (b := 22) (by decide) _ _
/-- The semaphore of the result slots drained for block 23. -/
@[sl_canon] theorem oSemD23 (hh) :
    ((cc0_scratch5 : DmaSems sig S4).slice (Rect.unit (s := S4) (k0_off16 23#32) S1.size hh)).squeeze S_ squeezes_S1_S_ = oSem 3 := oSem_congr (s := 3) (k0_off16_eq 2) _
/-- The slot of the result buffer drained for block 23. -/
@[sl_canon] theorem oSlotD23 (hh hs) :
    ((Memref.whole cc0_scratch2 : Memref sig .tc .vmem S4x2000x256 .f32).slice (Rect.unit (s := S4x2000x256) (k0_off17 23#32) S1x2000x256.size hh) hs).squeeze S2000x256 squeezes_S1x2000x256_S2000x256 = oSlot 3 := oSlot_congr (s := 3) (k0_off17_eq 2) _ _
/-- The block of the result numbered 23, as the drain spells it. -/
@[sl_canon] theorem oBlkD23 (hh hs) :
    (Memref.whole main_v5 : Memref sig .tc .hbm S50000x256 .f32).slice (Rect.unit (s := S50000x256) ![46000, 0] S2000x256.size hh) hs = oBlk 23 := oBlk_congr (b := 23) (by decide) _ _
/-- The block of the result numbered 24, as the drain spells it. -/
@[sl_canon] theorem oBlkD24 (hh hs) :
    (Memref.whole main_v5 : Memref sig .tc .hbm S50000x256 .f32).slice (Rect.unit (s := S50000x256) ![48000, 0] S2000x256.size hh) hs = oBlk 24 := oBlk_congr (b := 24) (by decide) _ _

/-- The windows the body loads and stores through the whole buffers are the slots'. -/
instance (priority := high) slotOff_k0_off9 : ClosedOff (k0_off9 i) := ⟨slotOff (Ring.sl 4 (i 0).val), (k0_off9_eq i).trans (slotC i)⟩
/-- The same for the type window. -/
instance (priority := high) slotOff_k0_off10 : ClosedOff (k0_off10 i) := ⟨slotOff (Ring.sl 4 (i 0).val), (k0_off10_eq i).trans (slotC i)⟩

end Canon

end Cert.Proof.Rows

end
-- ==== Proof.Pieces.lean ====
/-
  The resources the kernel's body holds: a block at home, a slot in hand, a slot's semaphore at zero, a slot with a
  block on its way in, and a result slot with a block on its way out.
-/
module

public import proofs.«01_k».proof.Proof.Names

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

/-- The algebra of the two parts. -/
abbrev UU (nD : Nat) (τ : Topo) : Type := UR sig nD τ × Counters
local notation "𝕄" => MT nD τ sig Unit (Elt F) ℕ (UU nD τ) ℕ
/-- Its first part. -/
abbrev EP : Emb (UR sig nD τ) (MT nD τ sig Unit (Elt F) ℕ (UU nD τ) ℕ) := embL
/-- No loop needs a variant. -/
abbrev 𝒱₀ : Variants := Variants.none

omit [FloatOps F] in
/-- Equal assertions entail each other. -/
theorem entails_of_eq {P Q : sProp 𝕄} (e : P = Q) : P ⊢ Q := e ▸ .rfl

section Pieces
variable (c : Dev nD)
  (XA : Buf (Elt F) ((c : Thread nD τ).loc main_arg0)) (TA : Buf (Elt F) ((c : Thread nD τ).loc main_v0))

/-- Contents seen by row slot `s`. -/
abbrev XSlotC (s : Fin 4) : Type := Buf (Elt F) ((xSlot s).view.loc (c : Thread nD τ))
/-- Contents seen by type slot `s`. -/
abbrev TSlotC (s : Fin 4) : Type := Buf (Elt F) ((tSlot s).view.loc (c : Thread nD τ))
/-- Contents seen by result slot `s`. -/
abbrev OSlotC (s : Fin 4) : Type := Buf (Elt F) ((oSlot s).view.loc (c : Thread nD τ))
/-- Contents seen by result block `b`. -/
abbrev OBlkC (b : Fin 25) : Type := Buf (Elt F) ((oBlk b).view.loc (c : Thread nD τ))

/-! ### In hand -/

/-- The semaphore of row slot `s` at zero. -/
abbrev xCell (s : Fin 4) : sProp 𝕄 := semVal ((c : Thread nD τ), SemLoc.dma (xSem s).sem) 0
/-- The semaphore of type slot `s` at zero. -/
abbrev tCell (s : Fin 4) : sProp 𝕄 := semVal ((c : Thread nD τ), SemLoc.dma (tSem s).sem) 0
/-- The semaphore of result slot `s` at zero. -/
abbrev oCell (s : Fin 4) : sProp 𝕄 := semVal ((c : Thread nD τ), SemLoc.dma (oSem s).sem) 0
/-- Row slot `s` in hand, at contents `f`. -/
abbrev xSlotP (s : Fin 4) (f : XSlotC (F := F) c s) : sProp 𝕄 := (xSlot s).view.loc (c : Thread nD τ) ↦[(xSlot s).view.set]{fullShare} f
/-- Type slot `s` in hand, at contents `f`. -/
abbrev tSlotP (s : Fin 4) (f : TSlotC (F := F) c s) : sProp 𝕄 := (tSlot s).view.loc (c : Thread nD τ) ↦[(tSlot s).view.set]{fullShare} f
/-- Result slot `s` in hand, at contents `f`. -/
abbrev oSlotP (s : Fin 4) (f : OSlotC (F := F) c s) : sProp 𝕄 := (oSlot s).view.loc (c : Thread nD τ) ↦[(oSlot s).view.set]{fullShare} f
/-- Row block `b` at home. -/
abbrev xHome (b : Fin 25) : sProp 𝕄 := (xBlk b).view.loc (c : Thread nD τ) ↦[(xBlk b).view.set]{fullShare} XA
/-- Type block `b` at home. -/
abbrev tHome (b : Fin 25) : sProp 𝕄 := (tBlk b).view.loc (c : Thread nD τ) ↦[(tBlk b).view.set]{fullShare} TA
/-- Result block `b` at home, at contents `f`. -/
abbrev oHome (b : Fin 25) (f : OBlkC (F := F) c b) : sProp 𝕄 := (oBlk b).view.loc (c : Thread nD τ) ↦[(oBlk b).view.set]{fullShare} f

/-! ### On the way -/

/-- Row block `b` as a slot's new contents. -/
abbrev xPay (b : Fin 25) : S2000x256.Idx → Elt F .f32 := ReadAs.same.apply ((xBlk b).view.read (Elt F) XA)
/-- Type block `b` as a slot's new contents. -/
abbrev tPay (b : Fin 25) : S2000x1.Idx → Elt F .i32 := ReadAs.same.apply ((tBlk b).view.read (Elt F) TA)
/-- Row slot `s` once row block `b` has landed. -/
abbrev xLanded (s : Fin 4) (b : Fin 25) (f : XSlotC (F := F) c s) : XSlotC (F := F) c s :=
  (xSlot s).view.writes (Elt F) f [⟨Rect.whole S2000x256, xPay c XA b⟩]
/-- Type slot `s` once type block `b` has landed. -/
abbrev tLanded (s : Fin 4) (b : Fin 25) (f : TSlotC (F := F) c s) : TSlotC (F := F) c s :=
  (tSlot s).view.writes (Elt F) f [⟨Rect.whole S2000x1, tPay c TA b⟩]
/-- Result block `b` once the contents `g` of result slot `s` have landed. -/
abbrev oLanded (s : Fin 4) (b : Fin 25) (g : OSlotC (F := F) c s) (f : OBlkC (F := F) c b) : OBlkC (F := F) c b :=
  (oBlk b).view.writes (Elt F) f [⟨Rect.whole S2000x256, ReadAs.same.apply ((oSlot s).view.read (Elt F) g)⟩]

/-- What a wide block's transfer pays its semaphore. -/
abbrev NX : ℕ := 64000
/-- What a type block's transfer pays its semaphore. -/
abbrev NT : ℕ := 32000

/-- Row slot `s` with row block `b` on its way in, over earlier contents `f`. -/
abbrev xFlight (s : Fin 4) (b : Fin 25) (f : XSlotC (F := F) c s) : sProp 𝕄 :=
  Transfers.Flight countersEmb (c : Thread nD τ) (SemLoc.dma (xSem s).sem) () NX iprop(xSlotP c s (xLanded c XA s b f) ∗ xHome c XA b)
/-- Type slot `s` with type block `b` on its way in, over earlier contents `f`. -/
abbrev tFlight (s : Fin 4) (b : Fin 25) (f : TSlotC (F := F) c s) : sProp 𝕄 :=
  Transfers.Flight countersEmb (c : Thread nD τ) (SemLoc.dma (tSem s).sem) () NT iprop(tSlotP c s (tLanded c TA s b f) ∗ tHome c TA b)
/-- Result slot `s`, at contents `g`, on its way out to result block `b`, over earlier contents `f`. -/
abbrev oFlight (s : Fin 4) (b : Fin 25) (g : OSlotC (F := F) c s) (f : OBlkC (F := F) c b) : sProp 𝕄 :=
  Transfers.Flight countersEmb (c : Thread nD τ) (SemLoc.dma (oSem s).sem) () NX iprop(oHome c b (oLanded c s b g f) ∗ oSlotP c s g)

end Pieces
end Cert.Proof.Rows
end
-- ==== Proof.Block.lean ====
/-
  What one grid point computes: the result block as a function of the row block, the type block, the weights and the
  bias rows, and that this is what the result slot holds once the point's store has been made.
-/
module

public import proofs.«01_k».proof.Proof.Pieces

@[expose] public section

noncomputable section

namespace Cert.Proof.Rows

open Cert.KernelIdeal Cert.KernelIdeal.Gen
open Idealize.ShloMosaic
open Idealize.ShloMosaic.TcCoe Idealize.ShloMosaic.Tactic

variable {F : FTy → Type} [FloatOps F]

/-- A type block takes a leading axis of one. -/
theorem casts_col : S2000x1.ShapeCasts S1x2000x1 := Eq.symm shapeCasts_S1x2000x1_S2000x1

/-! ## The slots through the windows of the whole buffers -/

/-- A load of a rectangle of a view reads the rectangle's squeezed view, with the squeezed axes put back. -/
theorem load_squeezed {sh s' : Shape} {e : EltTy} {sp : Space} (v : Memref sig .tc sp sh e) (r : Rect sh) (hu) (hq : r.shape.Squeezes s')
    (hc : s'.ShapeCasts r.shape) (g : v.view.ty.Contents (Elt F)) :
    View.readAt (Elt F) v.view r.toLoadRect g = shapeCast r.shape (((v.slice r hu).squeeze s' hq).view.read (Elt F) g) hc := by
  funext y
  show (v.view.slice r).read (Elt F) g y = (v.view.slice r).read (Elt F) g (Shape.reshapeEquiv hq.numel_eq (Shape.reshapeEquiv hc y))
  rw [Shape.reshapeEquiv_reshapeEquiv, Shape.reshapeEquiv_self]

/-- A load of slot `s` through the whole row buffer reads the slot with a leading axis of one. -/
theorem xSlot_load (s : Fin 4) {off : Fin 3 → Nat} (e : off = slotOff s) (hh) (g : (Memref.whole cc0_scratch0 : Memref sig .tc .vmem S4x2000x256 .f32).view.ty.Contents (Elt F)) :
    View.readAt (Elt F) (Memref.whole cc0_scratch0 : Memref sig .tc .vmem S4x2000x256 .f32).view (Rect.unit (s := S4x2000x256) off S1x2000x256.size hh).toLoadRect g
      = shapeCast S1x2000x256 ((xSlot s).view.read (Elt F) g) shapeCasts_S2000x256_S1x2000x256 := by
  subst e
  exact load_squeezed (Memref.whole cc0_scratch0 : Memref sig .tc .vmem S4x2000x256 .f32) (Rect.unit (s := S4x2000x256) (slotOff s) S1x2000x256.size hh) _ squeezes_S1x2000x256_S2000x256 shapeCasts_S2000x256_S1x2000x256 g

/-- A load of slot `s` through the whole type buffer reads the slot with a leading axis of one. -/
theorem tSlot_load (s : Fin 4) {off : Fin 3 → Nat} (e : off = slotOff s) (hh) (g : (Memref.whole cc0_scratch1 : Memref sig .tc .vmem S4x2000x1 .i32).view.ty.Contents (Elt F)) :
    View.readAt (Elt F) (Memref.whole cc0_scratch1 : Memref sig .tc .vmem S4x2000x1 .i32).view (Rect.unit (s := S4x2000x1) off S1x2000x1.size hh).toLoadRect g
      = shapeCast S1x2000x1 ((tSlot s).view.read (Elt F) g) casts_col := by
  subst e
  exact load_squeezed (Memref.whole cc0_scratch1 : Memref sig .tc .vmem S4x2000x1 .i32) (Rect.unit (s := S4x2000x1) (slotOff s) S1x2000x1.size hh) _ squeezes_S1x2000x1_S2000x1 casts_col g

/-- A store of slot `s` through the whole result buffer leaves the slot holding the payload without its leading axis. -/
theorem oSlot_store (s : Fin 4) {off : Fin 3 → Nat} (e : off = slotOff s) (hh) (g : (Memref.whole cc0_scratch2 : Memref sig .tc .vmem S4x2000x256 .f32).view.ty.Contents (Elt F))
    (w : S1x2000x256.Idx → Elt F .f32) :
    (oSlot s).view.read (Elt F) (View.write (Elt F) ((Memref.whole cc0_scratch2 : Memref sig .tc .vmem S4x2000x256 .f32).access (Rect.unit (s := S4x2000x256) off S1x2000x256.size hh)) g w Finset.univ)
      = shapeCast S2000x256 w shapeCasts_S1x2000x256_S2000x256 := by
  subst e
  have h := View.read_write_univ (Val := Elt F) (v := (Memref.whole cc0_scratch2 : Memref sig .tc .vmem S4x2000x256 .f32).access (Rect.unit (s := S4x2000x256) (slotOff s) S1x2000x256.size hh)) g w
  funext j
  exact congrFun h (Shape.reshapeEquiv shapeCasts_S1x2000x256_S2000x256 j)

/-! ## The block a point computes -/

/-- Result block from row block `x`, type block `ty`, weights `wv` and the four bias rows. -/
def blkFn (x : S2000x256.Idx → Elt F .f32) (ty : S2000x1.Idx → Elt F .i32) (wv : Vec F S256x1024 .bf16) (b0 b1 b2 b3 : Vec F S1x256 .f32) :
    S2000x256.Idx → Elt F .f32 :=
  shapeCast S2000x256
    (k0_pay5 (k0_pay1 (shapeCast S1x2000x1 ty casts_col))
      (k0_pay2 (shapeCast S1x2000x256 x shapeCasts_S2000x256_S1x2000x256) wv) (k0_pay3 (shapeCast S1x2000x256 x shapeCasts_S2000x256_S1x2000x256) wv)
      (k0_pay4 b0) b1 b2 b3) shapeCasts_S1x2000x256_S2000x256

section
variable (c : Dev nD)
  (XA : Buf (Elt F) ((c : Thread nD τ).loc main_arg0)) (TA : Buf (Elt F) ((c : Thread nD τ).loc main_v0))
  (arg3 : Memref sig .tc .vmem S256x1024 .bf16) (arg4 : Memref sig .tc .vmem S4x256 .f32)
  (gW : Buf (Elt F) (arg3.view.loc (c : Thread nD τ))) (gB : Buf (Elt F) (arg4.view.loc (c : Thread nD τ)))

/-- The weights as the body loads them. -/
abbrev wVal : Vec F S256x1024 .bf16 := View.readAt (Elt F) arg3.view (Rect.unit (s := S256x1024) ![0, 0] S256x1024.size inb_S256x1024_S256x1024_0_0).toLoadRect gW
/-- A bias row as the body loads it. -/
abbrev bVal (k : Fin 4) (h : ∀ a, (![k.val, 0] : Fin 2 → Nat) a + S1x256.size a ≤ S4x256.size a) : Vec F S1x256 .f32 := View.readAt (Elt F) arg4.view (Rect.unit (s := S4x256) ![k.val, 0] S1x256.size h).toLoadRect gB

/-- Result block `b` of the kernel. -/
def blkVal (b : Fin 25) : S2000x256.Idx → Elt F .f32 :=
  blkFn ((xBlk b).view.read (Elt F) XA) ((tBlk b).view.read (Elt F) TA) (wVal c arg3 gW)
    (bVal c arg4 gB 0 inb_S4x256_S1x256_0_0) (bVal c arg4 gB 1 inb_S4x256_S1x256_1_0) (bVal c arg4 gB 2 inb_S4x256_S1x256_2_0) (bVal c arg4 gB 3 inb_S4x256_S1x256_3_0)

/-- After the body's store, from slots the blocks have landed in, the result slot holds the computed block. -/
theorem stored_eq (s : Fin 4) (b : Fin 25) {o1 o2 o3 : Fin 3 → Nat} (e1 : o1 = slotOff s) (e2 : o2 = slotOff s) (e3 : o3 = slotOff s) (h1 h2 h3)
    (fx : XSlotC (F := F) c s) (ft : TSlotC (F := F) c s) (g : OSlotC (F := F) c s) :
    (oSlot s).view.read (Elt F) (View.write (Elt F) ((Memref.whole cc0_scratch2 : Memref sig .tc .vmem S4x2000x256 .f32).access (Rect.unit (s := S4x2000x256) o3 S1x2000x256.size h3)) g
      (k0_pay5 (k0_pay1 (View.readAt (Elt F) (Memref.whole cc0_scratch1 : Memref sig .tc .vmem S4x2000x1 .i32).view (Rect.unit (s := S4x2000x1) o2 S1x2000x1.size h2).toLoadRect (tLanded c TA s b ft)))
        (k0_pay2 (View.readAt (Elt F) (Memref.whole cc0_scratch0 : Memref sig .tc .vmem S4x2000x256 .f32).view (Rect.unit (s := S4x2000x256) o1 S1x2000x256.size h1).toLoadRect (xLanded c XA s b fx)) (wVal c arg3 gW))
        (k0_pay3 (View.readAt (Elt F) (Memref.whole cc0_scratch0 : Memref sig .tc .vmem S4x2000x256 .f32).view (Rect.unit (s := S4x2000x256) o1 S1x2000x256.size h1).toLoadRect (xLanded c XA s b fx)) (wVal c arg3 gW))
        (k0_pay4 (bVal c arg4 gB 0 inb_S4x256_S1x256_0_0)) (bVal c arg4 gB 1 inb_S4x256_S1x256_1_0) (bVal c arg4 gB 2 inb_S4x256_S1x256_2_0) (bVal c arg4 gB 3 inb_S4x256_S1x256_3_0)) Finset.univ)
      = blkVal c XA TA arg3 arg4 gW gB b := by
  refine (oSlot_store s e3 h3 g _).trans ?_
  have hx := (xSlot_load (F := F) s e1 h1 (xLanded c XA s b fx)).trans
    (congrArg (fun z => shapeCast S1x2000x256 z shapeCasts_S2000x256_S1x2000x256) (View.read_writes_whole (xSlot s).view fx (xPay c XA b)))
  have ht := (tSlot_load (F := F) s e2 h2 (tLanded c TA s b ft)).trans
    (congrArg (fun z => shapeCast S1x2000x1 z casts_col) (View.read_writes_whole (tSlot s).view ft (tPay c TA b)))
  exact congrArg₂ (fun X T => shapeCast S2000x256 (k0_pay5 (k0_pay1 T) (k0_pay2 X (wVal c arg3 gW)) (k0_pay3 X (wVal c arg3 gW))
    (k0_pay4 (bVal c arg4 gB 0 inb_S4x256_S1x256_0_0)) (bVal c arg4 gB 1 inb_S4x256_S1x256_1_0) (bVal c arg4 gB 2 inb_S4x256_S1x256_2_0) (bVal c arg4 gB 3 inb_S4x256_S1x256_3_0))
      shapeCasts_S1x2000x256_S2000x256) hx ht

end
end Cert.Proof.Rows
end
-- ==== Proof.Body.lean ====
/-
  The kernel's body at one grid point, run: from the resources the point holds to those it leaves. Five cases, by which
  of the body's branches the point takes.
-/
module

public import proofs.«01_k».proof.Proof.Block

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) ((c : Thread nD τ).loc main_arg0)) (TA : Buf (Elt F) ((c : Thread nD τ).loc main_v0))
  (arg3 : Memref sig .tc .vmem S256x1024 .bf16) (harg3 : arg3.IsWhole) (arg4 : Memref sig .tc .vmem S4x256 .f32) (harg4 : arg4.IsWhole)

/-- A row slot with a block on its way in. -/
abbrev xOn (s : Fin 4) (b : Fin 25) : sProp 𝕄 := iprop(∃ f, xFlight c XA s b f)
/-- A type slot with a block on its way in. -/
abbrev tOn (s : Fin 4) (b : Fin 25) : sProp 𝕄 := iprop(∃ f, tFlight c TA s b f)
/-- A result slot with a block of contents `val` on its way out. -/
abbrev oOn (s : Fin 4) (b : Fin 25) (val : S2000x256.Idx → Elt F .f32) : sProp 𝕄 :=
  iprop(∃ g f, ⌜(oSlot s).view.read (Elt F) g = val⌝ ∗ oFlight c s b g f)
/-- A row slot in hand, its semaphore at zero. -/
abbrev xFree (s : Fin 4) : sProp 𝕄 := iprop((∃ f, xSlotP c s f) ∗ xCell c s)
/-- A type slot in hand, its semaphore at zero. -/
abbrev tFree (s : Fin 4) : sProp 𝕄 := iprop((∃ f, tSlotP c s f) ∗ tCell c s)
/-- A result slot in hand, its semaphore at zero. -/
abbrev oFree (s : Fin 4) : sProp 𝕄 := iprop((∃ f, oSlotP c s f) ∗ oCell c s)
/-- A result block at home with contents `val`. -/
abbrev oDone (b : Fin 25) (val : S2000x256.Idx → Elt F .f32) : sProp 𝕄 :=
  iprop(∃ f, ⌜(oBlk b).view.read (Elt F) f = val⌝ ∗ oHome c b f)

omit [FloatOps F] in
/-- A result slot's contents, once landed, are the block's. -/
theorem read_landed (s : Fin 4) (b : Fin 25) (g : OSlotC (F := F) c s) (f : OBlkC (F := F) c b) {val : S2000x256.Idx → Elt F .f32}
    (h : (oSlot s).view.read (Elt F) g = val) : (oBlk b).view.read (Elt F) (oLanded c s b g f) = val :=
  (View.read_writes_whole (oBlk b).view f _).trans h

section
variable (i : grid0.Coords)

/-- The body on the arrays and scratch buffers the launch gives it. -/
abbrev bodyG : Prog (TpuEff nD τ sig (Elt F) Λ₀ .tc) PUnit :=
  cc0__outer i (Memref.whole main_arg0) (Memref.isWhole_whole _) (Memref.whole main_v0) (Memref.isWhole_whole _) arg3 harg3 arg4 harg4 (Memref.whole main_v5) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5
/-- The staged weights in hand, at contents `gW`. -/
abbrev wP (gW : Buf (Elt F) (arg3.view.loc (c : Thread nD τ))) : sProp 𝕄 := arg3.view.loc (c : Thread nD τ) ↦[arg3.view.set]{fullShare} gW
/-- The staged biases in hand, at contents `gB`. -/
abbrev bP (gB : Buf (Elt F) (arg4.view.loc (c : Thread nD τ))) : sProp 𝕄 := arg4.view.loc (c : Thread nD τ) ↦[arg4.view.set]{fullShare} gB

/-- What guards the opening transfers: the first grid point. -/
theorem cond1_iff : ∀ i : grid0.Coords, Scalar.cmpi .ne (Scalar.extui (Scalar.cmpi .eq (BitVec.ofNat 32 (i 0).val) 0#32) : BitVec 32) 0#32 = 1#1 ↔ (i 0).val = 0 := by
  decide +kernel

variable (gW : Buf (Elt F) (arg3.view.loc (c : Thread nD τ))) (gB : Buf (Elt F) (arg4.view.loc (c : Thread nD τ))) (W : Finset _)

set_option backward.proofsInPublic true in
/-- A point with a block to collect and a block to fetch ahead. -/
theorem run_mid (fx ft) (go : OSlotC (F := F) c (Ring.sl 4 (i 0).val)) (fo fo') (h4 : 4 ≤ (i 0).val) (h20 : (i 0).val + 4 < 25)
    (hv : (oSlot (Ring.sl 4 (i 0).val)).view.read (Elt F) go = blkVal c XA TA arg3 arg4 gW gB (Ring.bk 25 ((i 0).val - 4))) (Q : PUnit → sProp 𝕄) :
   iprop(wP c arg3 gW ∗ bP c arg4 gB ∗ owes (c : Thread nD τ) 0 W
     ∗ xFlight c XA (Ring.sl 4 (i 0).val) (Ring.bk 25 (i 0).val) fx
     ∗ tFlight c TA (Ring.sl 4 (i 0).val) (Ring.bk 25 (i 0).val) ft
     ∗ oFlight c (Ring.sl 4 (i 0).val) (Ring.bk 25 ((i 0).val - 4)) go fo
     ∗ xHome c XA (Ring.bk 25 ((i 0).val + 4)) ∗ tHome c TA (Ring.bk 25 ((i 0).val + 4))
     ∗ oHome c (Ring.bk 25 (i 0).val) fo'
     ∗ ((wP c arg3 gW ∗ bP c arg4 gB ∗ (∃ W', owes (c : Thread nD τ) 0 W')
        ∗ xOn c XA (Ring.sl 4 (i 0).val) (Ring.bk 25 ((i 0).val + 4)) ∗ tOn c TA (Ring.sl 4 (i 0).val) (Ring.bk 25 ((i 0).val + 4))
        ∗ oOn c (Ring.sl 4 (i 0).val) (Ring.bk 25 (i 0).val) (blkVal c XA TA arg3 arg4 gW gB (Ring.bk 25 (i 0).val))
        ∗ xHome c XA (Ring.bk 25 (i 0).val) ∗ tHome c TA (Ring.bk 25 (i 0).val)
        ∗ oDone c (Ring.bk 25 ((i 0).val - 4)) (blkVal c XA TA arg3 arg4 gW gB (Ring.bk 25 ((i 0).val - 4))))
        -∗ Q PUnit.unit))
     ⊢ wp frame (wpE (defs₀ (F := F)) 𝒱₀ (c : Thread nD τ) none) Set.univ (bodyG arg3 harg3 arg4 harg4 i) Q := by
  have hc1 := mt (cond1_iff i).mp (by omega)
  have hc2 := (cond2_iff i).mpr h4
  have hc3 := (cond3_iff i).mpr h20
  have hc4 := mt (cond4_iff i).mp (by omega)
  iintro ⟨HW, HB, Howes, HX, HT, HO, Hx, Ht, Ho, K⟩
  unfold bodyG
  rw [cc0__outer_eq_skeleton]; unfold cc0__outer_skel
  rw [k0_part2_eq_skeleton, k0_part3_eq_skeleton]; unfold k0_part2_skel k0_part3_skel
  sl_exec
  sl_step
  iapply K
  isplitl [HW]
  · iexact HW
  isplitl [HB]
  · iexact HB
  isplitl [Howes]
  · iexists _; iexact Howes
  isplitl [HX]
  · iexists _; iexact HX
  isplitl [HT]
  · iexists _; iexact HT
  isplitl [HO]
  · iexists _, _
    isplitr [HO]
    rotate_left
    · iexact HO
    · ipureintro; exact stored_eq c XA TA arg3 arg4 gW gB (Ring.sl 4 (i 0).val) (Ring.bk 25 (i 0).val) (slotOff_k0_off9 i).eq (slotOff_k0_off10 i).eq (slotOff_k0_off9 i).eq (k0_off9_inb i) (k0_off10_inb i) (k0_off9_inb i) _ _ _
  isplitl [HX_src]
  · iexact HX_src
  isplitl [HT_src]
  · iexact HT_src
  iexists _
  isplitr [HO_dst]
  rotate_left
  · iexact HO_dst
  · ipureintro; exact read_landed c (Ring.sl 4 (i 0).val) _ go fo hv
set_option backward.proofsInPublic true in
/-- A point with nothing to collect yet and a block to fetch ahead. -/
theorem run_low (fx ft go fo') (h0 : (i 0).val ≠ 0) (h4 : (i 0).val < 4)
    (Q : PUnit → sProp 𝕄) :
   iprop(wP c arg3 gW ∗ bP c arg4 gB ∗ owes (c : Thread nD τ) 0 W
     ∗ xFlight c XA (Ring.sl 4 (i 0).val) (Ring.bk 25 (i 0).val) fx
     ∗ tFlight c TA (Ring.sl 4 (i 0).val) (Ring.bk 25 (i 0).val) ft
     ∗ oSlotP c (Ring.sl 4 (i 0).val) go ∗ oCell c (Ring.sl 4 (i 0).val)
     ∗ xHome c XA (Ring.bk 25 ((i 0).val + 4)) ∗ tHome c TA (Ring.bk 25 ((i 0).val + 4))
     ∗ oHome c (Ring.bk 25 (i 0).val) fo'
     ∗ ((wP c arg3 gW ∗ bP c arg4 gB ∗ (∃ W', owes (c : Thread nD τ) 0 W')
        ∗ xOn c XA (Ring.sl 4 (i 0).val) (Ring.bk 25 ((i 0).val + 4)) ∗ tOn c TA (Ring.sl 4 (i 0).val) (Ring.bk 25 ((i 0).val + 4))
        ∗ oOn c (Ring.sl 4 (i 0).val) (Ring.bk 25 (i 0).val) (blkVal c XA TA arg3 arg4 gW gB (Ring.bk 25 (i 0).val))
        ∗ xHome c XA (Ring.bk 25 (i 0).val) ∗ tHome c TA (Ring.bk 25 (i 0).val))
        -∗ Q PUnit.unit))
     ⊢ wp frame (wpE (defs₀ (F := F)) 𝒱₀ (c : Thread nD τ) none) Set.univ (bodyG arg3 harg3 arg4 harg4 i) Q := by
  have hc1 := mt (cond1_iff i).mp (by omega)
  have h20 : (i 0).val + 4 < 25 := by omega
  have hc2 := mt (cond2_iff i).mp (by omega)
  have hc3 := (cond3_iff i).mpr h20
  have hc4 := mt (cond4_iff i).mp (by omega)
  iintro ⟨HW, HB, Howes, HX, HT, HS, HO, Hx, Ht, Ho, K⟩
  unfold bodyG
  rw [cc0__outer_eq_skeleton]; unfold cc0__outer_skel
  rw [k0_part2_eq_skeleton, k0_part3_eq_skeleton]; unfold k0_part2_skel k0_part3_skel
  sl_exec
  sl_step
  iapply K
  isplitl [HW]
  · iexact HW
  isplitl [HB]
  · iexact HB
  isplitl [Howes]
  · iexists _; iexact Howes
  isplitl [HX]
  · iexists _; iexact HX
  isplitl [HT]
  · iexists _; iexact HT
  isplitl [HO]
  · iexists _, _
    isplitr [HO]
    rotate_left
    · iexact HO
    · ipureintro; exact stored_eq c XA TA arg3 arg4 gW gB (Ring.sl 4 (i 0).val) (Ring.bk 25 (i 0).val) (slotOff_k0_off9 i).eq (slotOff_k0_off10 i).eq (slotOff_k0_off9 i).eq (k0_off9_inb i) (k0_off10_inb i) (k0_off9_inb i) _ _ _
  isplitl [HX_src]
  · iexact HX_src
  iexact HT_src

set_option backward.proofsInPublic true in
/-- A point with a block to collect and nothing more to fetch. -/
theorem run_tail (fx ft) (go : OSlotC (F := F) c (Ring.sl 4 (i 0).val)) (fo fo') (h4 : 4 ≤ (i 0).val) (h20 : ¬ (i 0).val + 4 < 25) (h24 : (i 0).val ≠ 24)
    (hv : (oSlot (Ring.sl 4 (i 0).val)).view.read (Elt F) go = blkVal c XA TA arg3 arg4 gW gB (Ring.bk 25 ((i 0).val - 4))) (Q : PUnit → sProp 𝕄) :
   iprop(wP c arg3 gW ∗ bP c arg4 gB ∗ owes (c : Thread nD τ) 0 W
     ∗ xFlight c XA (Ring.sl 4 (i 0).val) (Ring.bk 25 (i 0).val) fx
     ∗ tFlight c TA (Ring.sl 4 (i 0).val) (Ring.bk 25 (i 0).val) ft
     ∗ oFlight c (Ring.sl 4 (i 0).val) (Ring.bk 25 ((i 0).val - 4)) go fo
     ∗ oHome c (Ring.bk 25 (i 0).val) fo'
     ∗ ((wP c arg3 gW ∗ bP c arg4 gB ∗ (∃ W', owes (c : Thread nD τ) 0 W')
        ∗ xFree c (Ring.sl 4 (i 0).val) ∗ tFree c (Ring.sl 4 (i 0).val)
        ∗ oOn c (Ring.sl 4 (i 0).val) (Ring.bk 25 (i 0).val) (blkVal c XA TA arg3 arg4 gW gB (Ring.bk 25 (i 0).val))
        ∗ xHome c XA (Ring.bk 25 (i 0).val) ∗ tHome c TA (Ring.bk 25 (i 0).val)
        ∗ oDone c (Ring.bk 25 ((i 0).val - 4)) (blkVal c XA TA arg3 arg4 gW gB (Ring.bk 25 ((i 0).val - 4))))
        -∗ Q PUnit.unit))
     ⊢ wp frame (wpE (defs₀ (F := F)) 𝒱₀ (c : Thread nD τ) none) Set.univ (bodyG arg3 harg3 arg4 harg4 i) Q := by
  have hc1 := mt (cond1_iff i).mp (by omega)
  have hc2 := (cond2_iff i).mpr h4
  have hc3 := mt (cond3_iff i).mp h20
  have hc4 := mt (cond4_iff i).mp (by omega)
  iintro ⟨HW, HB, Howes, HX, HT, HO, Ho, K⟩
  unfold bodyG
  rw [cc0__outer_eq_skeleton]; unfold cc0__outer_skel
  rw [k0_part2_eq_skeleton, k0_part3_eq_skeleton]; unfold k0_part2_skel k0_part3_skel
  sl_exec
  sl_step

  iapply K
  isplitl [HW]
  · iexact HW
  isplitl [HB]
  · iexact HB
  isplitl [Howes]
  · iexists _; iexact Howes
  isplitl [HX HX_dst]
  · isplitl [HX_dst]
    · iexists _; iexact HX_dst
    · iexact HX
  isplitl [HT HT_dst]
  · isplitl [HT_dst]
    · iexists _; iexact HT_dst
    · iexact HT
  isplitl [HO]
  · iexists _, _
    isplitr [HO]
    rotate_left
    · iexact HO
    · ipureintro; exact stored_eq c XA TA arg3 arg4 gW gB (Ring.sl 4 (i 0).val) (Ring.bk 25 (i 0).val) (slotOff_k0_off9 i).eq (slotOff_k0_off10 i).eq (slotOff_k0_off9 i).eq (k0_off9_inb i) (k0_off10_inb i) (k0_off9_inb i) _ _ _
  isplitl [HX_src]
  · iexact HX_src
  isplitl [HT_src]
  · iexact HT_src
  iexists _
  isplitr [HO_dst]
  rotate_left
  · iexact HO_dst
  · ipureintro; exact read_landed c (Ring.sl 4 (i 0).val) _ go fo hv

set_option backward.proofsInPublic true in
/-- The first point: it starts the first four fetches, then runs like any early point. -/
theorem run_first (x0 x1 x2 x3 t0 t1 t2 t3 go fo') (h0 : (i 0).val = 0) (Q : PUnit → sProp 𝕄) :
   iprop(wP c arg3 gW ∗ bP c arg4 gB ∗ owes (c : Thread nD τ) 0 W
     ∗ xSlotP c (Ring.sl 4 (i 0).val) x0 ∗ xCell c (Ring.sl 4 (i 0).val) ∗ tSlotP c (Ring.sl 4 (i 0).val) t0 ∗ tCell c (Ring.sl 4 (i 0).val) ∗ xHome c XA (Ring.bk 25 (i 0).val) ∗ tHome c TA (Ring.bk 25 (i 0).val)
     ∗ xSlotP c 1 x1 ∗ xCell c 1 ∗ tSlotP c 1 t1 ∗ tCell c 1 ∗ xHome c XA 1 ∗ tHome c TA 1
     ∗ xSlotP c 2 x2 ∗ xCell c 2 ∗ tSlotP c 2 t2 ∗ tCell c 2 ∗ xHome c XA 2 ∗ tHome c TA 2
     ∗ xSlotP c 3 x3 ∗ xCell c 3 ∗ tSlotP c 3 t3 ∗ tCell c 3 ∗ xHome c XA 3 ∗ tHome c TA 3
     ∗ xHome c XA (Ring.bk 25 ((i 0).val + 4)) ∗ tHome c TA (Ring.bk 25 ((i 0).val + 4))
     ∗ oSlotP c (Ring.sl 4 (i 0).val) go ∗ oCell c (Ring.sl 4 (i 0).val)
     ∗ oHome c (Ring.bk 25 (i 0).val) fo'
     ∗ ((wP c arg3 gW ∗ bP c arg4 gB ∗ (∃ W', owes (c : Thread nD τ) 0 W')
        ∗ (xOn c XA (Ring.sl 4 (i 0).val) (Ring.bk 25 ((i 0).val + 4)) ∗ xOn c XA 1 1 ∗ xOn c XA 2 2 ∗ xOn c XA 3 3)
        ∗ (tOn c TA (Ring.sl 4 (i 0).val) (Ring.bk 25 ((i 0).val + 4)) ∗ tOn c TA 1 1 ∗ tOn c TA 2 2 ∗ tOn c TA 3 3)
        ∗ oOn c (Ring.sl 4 (i 0).val) (Ring.bk 25 (i 0).val) (blkVal c XA TA arg3 arg4 gW gB (Ring.bk 25 (i 0).val))
        ∗ xHome c XA (Ring.bk 25 (i 0).val) ∗ tHome c TA (Ring.bk 25 (i 0).val))
        -∗ Q PUnit.unit))
     ⊢ wp frame (wpE (defs₀ (F := F)) 𝒱₀ (c : Thread nD τ) none) Set.univ (bodyG arg3 harg3 arg4 harg4 i) Q := by
  have h20 : (i 0).val + 4 < 25 := by omega
  have hc1 := (cond1_iff i).mpr h0
  have hc2 := mt (cond2_iff i).mp (by omega)
  have hc3 := (cond3_iff i).mpr h20
  have hc4 := mt (cond4_iff i).mp (by omega)
  have hs0 : (0 : Fin 4) = (Ring.sl 4 (i 0).val) := by rw [h0]; rfl
  have hb0 : (0 : Fin 25) = (Ring.bk 25 (i 0).val) := by rw [h0]; rfl
  have hcanon1 : xSem 0 = xSem (Ring.sl 4 (i 0).val) := congrArg xSem hs0
  have hcanon2 : tSem 0 = tSem (Ring.sl 4 (i 0).val) := congrArg tSem hs0
  have hcanon3 : xSlot 0 = xSlot (Ring.sl 4 (i 0).val) := congrArg xSlot hs0
  have hcanon4 : tSlot 0 = tSlot (Ring.sl 4 (i 0).val) := congrArg tSlot hs0
  have hcanon5 : xBlk 0 = xBlk (Ring.bk 25 (i 0).val) := congrArg xBlk hb0
  have hcanon6 : tBlk 0 = tBlk (Ring.bk 25 (i 0).val) := congrArg tBlk hb0
  clear hs0 hb0
  iintro ⟨HW, HB, Howes, Xs0, Xc0, Ts0, Tc0, Xh0, Th0, Xs1, Xc1, Ts1, Tc1, Xh1, Th1, Xs2, Xc2, Ts2, Tc2, Xh2, Th2, Xs3, Xc3, Ts3, Tc3, Xh3, Th3, Hx, Ht, HS, HO, Ho, K⟩
  unfold bodyG
  rw [cc0__outer_eq_skeleton]; unfold cc0__outer_skel
  rw [k0_part2_eq_skeleton, k0_part3_eq_skeleton]; unfold k0_part2_skel k0_part3_skel
  sl_exec
  sl_step
  iapply K
  isplitl [HW]
  · iexact HW
  isplitl [HB]
  · iexact HB
  isplitl [Howes]
  · iexists _; iexact Howes
  isplitl [Xc0 Xc1 Xc2 Xc3]
  · isplitl [Xc0]
    · iexists _; iexact Xc0
    isplitl [Xc1]
    · iexists _; iexact Xc1
    isplitl [Xc2]
    · iexists _; iexact Xc2
    iexists _; iexact Xc3
  isplitl [Tc0 Tc1 Tc2 Tc3]
  · isplitl [Tc0]
    · iexists _; iexact Tc0
    isplitl [Tc1]
    · iexists _; iexact Tc1
    isplitl [Tc2]
    · iexists _; iexact Tc2
    iexists _; iexact Tc3
  isplitl [HO]
  · iexists _, _
    isplitr [HO]
    rotate_left
    · iexact HO
    · ipureintro; exact stored_eq c XA TA arg3 arg4 gW gB (Ring.sl 4 (i 0).val) (Ring.bk 25 (i 0).val) (slotOff_k0_off9 i).eq (slotOff_k0_off10 i).eq (slotOff_k0_off9 i).eq (k0_off9_inb i) (k0_off10_inb i) (k0_off9_inb i) _ _ _
  isplitl [Xh0]
  · iexact Xh0
  iexact Th0

set_option backward.proofsInPublic true in
/-- The last point: it collects the four results still on their way. -/
theorem run_last (fx ft) (go : OSlotC (F := F) c (Ring.sl 4 (i 0).val)) (fo) (g1 : OSlotC (F := F) c 1) (f1) (g2 : OSlotC (F := F) c 2) (f2) (g3 : OSlotC (F := F) c 3) (f3) (fo') (h24 : (i 0).val = 24)
    (hv : (oSlot (Ring.sl 4 (i 0).val)).view.read (Elt F) go = (blkVal c XA TA arg3 arg4 gW gB (Ring.bk 25 ((i 0).val - 4))))
    (hv1 : (oSlot 1).view.read (Elt F) g1 = (blkVal c XA TA arg3 arg4 gW gB 21)) (hv2 : (oSlot 2).view.read (Elt F) g2 = (blkVal c XA TA arg3 arg4 gW gB 22)) (hv3 : (oSlot 3).view.read (Elt F) g3 = (blkVal c XA TA arg3 arg4 gW gB 23))
    (Q : PUnit → sProp 𝕄) :
   iprop(wP c arg3 gW ∗ bP c arg4 gB ∗ owes (c : Thread nD τ) 0 W
     ∗ xFlight c XA (Ring.sl 4 (i 0).val) (Ring.bk 25 (i 0).val) fx
     ∗ tFlight c TA (Ring.sl 4 (i 0).val) (Ring.bk 25 (i 0).val) ft
     ∗ oFlight c (Ring.sl 4 (i 0).val) (Ring.bk 25 ((i 0).val - 4)) go fo ∗ oFlight c 1 21 g1 f1 ∗ oFlight c 2 22 g2 f2 ∗ oFlight c 3 23 g3 f3
     ∗ oHome c (Ring.bk 25 (i 0).val) fo'
     ∗ ((wP c arg3 gW ∗ bP c arg4 gB ∗ (∃ W', owes (c : Thread nD τ) 0 W')
        ∗ xFree c (Ring.sl 4 (i 0).val) ∗ tFree c (Ring.sl 4 (i 0).val)
        ∗ (oFree c (Ring.sl 4 (i 0).val) ∗ oFree c 1 ∗ oFree c 2 ∗ oFree c 3)
        ∗ xHome c XA (Ring.bk 25 (i 0).val) ∗ tHome c TA (Ring.bk 25 (i 0).val)
        ∗ oDone c (Ring.bk 25 ((i 0).val - 4)) (blkVal c XA TA arg3 arg4 gW gB (Ring.bk 25 ((i 0).val - 4))) ∗ oDone c 21 (blkVal c XA TA arg3 arg4 gW gB 21) ∗ oDone c 22 (blkVal c XA TA arg3 arg4 gW gB 22) ∗ oDone c 23 (blkVal c XA TA arg3 arg4 gW gB 23) ∗ oDone c (Ring.bk 25 (i 0).val) (blkVal c XA TA arg3 arg4 gW gB (Ring.bk 25 (i 0).val)))
        -∗ Q PUnit.unit))
     ⊢ wp frame (wpE (defs₀ (F := F)) 𝒱₀ (c : Thread nD τ) none) Set.univ (bodyG arg3 harg3 arg4 harg4 i) Q := by
  have hc1 := mt (cond1_iff i).mp (by omega)
  have hc2 := (cond2_iff i).mpr (by omega)
  have hc3 := mt (cond3_iff i).mp (by omega)
  have hc4 := (cond4_iff i).mpr h24
  have hb0 : (24 : Fin 25) = (Ring.bk 25 (i 0).val) := by rw [h24]; rfl
  have hcanon1 : oBlk 24 = oBlk (Ring.bk 25 (i 0).val) := congrArg oBlk hb0
  clear hb0
  iintro ⟨HW, HB, Howes, HX, HT, HO, HO1, HO2, HO3, Ho, K⟩
  unfold bodyG
  rw [cc0__outer_eq_skeleton]; unfold cc0__outer_skel
  rw [k0_part2_eq_skeleton, k0_part3_eq_skeleton]; unfold k0_part2_skel k0_part3_skel
  sl_exec
  sl_step
  iapply K
  isplitl [HW]
  · iexact HW
  isplitl [HB]
  · iexact HB
  isplitl [Howes]
  · iexists _; iexact Howes
  isplitl [HX HX_dst]
  · isplitl [HX_dst]
    · iexists _; iexact HX_dst
    · iexact HX
  isplitl [HT HT_dst]
  · isplitl [HT_dst]
    · iexists _; iexact HT_dst
    · iexact HT
  isplitl [HO HO_src HO1 HO1_src HO2 HO2_src HO3 HO3_src]
  · isplitl [HO HO_src]
    · isplitl [HO_src]
      · iexists _; iexact HO_src
      · iexact HO
    isplitl [HO1 HO1_src]
    · isplitl [HO1_src]
      · iexists _; iexact HO1_src
      · iexact HO1
    isplitl [HO2 HO2_src]
    · isplitl [HO2_src]
      · iexists _; iexact HO2_src
      · iexact HO2
    isplitl [HO3_src]
    · iexists _; iexact HO3_src
    · iexact HO3
  isplitl [HX_src]
  · iexact HX_src
  isplitl [HT_src]
  · iexact HT_src
  isplitl [HO_dst]
  · iexists _
    isplitr [HO_dst]
    rotate_left
    · iexact HO_dst
    · ipureintro; exact read_landed c (Ring.sl 4 (i 0).val) _ go fo hv
  isplitl [HO1_dst]
  · iexists _
    isplitr [HO1_dst]
    rotate_left
    · iexact HO1_dst
    · ipureintro; exact read_landed c 1 _ g1 f1 hv1
  isplitl [HO2_dst]
  · iexists _
    isplitr [HO2_dst]
    rotate_left
    · iexact HO2_dst
    · ipureintro; exact read_landed c 2 _ g2 f2 hv2
  isplitl [HO3_dst]
  · iexists _
    isplitr [HO3_dst]
    rotate_left
    · iexact HO3_dst
    · ipureintro; exact read_landed c 3 _ g3 f3 hv3
  iexists _
  isplitr [Ho]
  rotate_left
  · iexact Ho
  · ipureintro; exact read_landed c (Ring.sl 4 (i 0).val) _ _ fo' (stored_eq c XA TA arg3 arg4 gW gB (Ring.sl 4 (i 0).val) (Ring.bk 25 (i 0).val) (slotOff_k0_off9 i).eq (slotOff_k0_off10 i).eq (slotOff_k0_off9 i).eq (k0_off9_inb i) (k0_off10_inb i) (k0_off9_inb i) _ _ _)
end
end Cert.Proof.Rows
end
-- ==== Proof.Invariant.lean ====
/-
  What the kernel holds between two grid points, and that the body takes it from one point to the next.
-/
module

public import proofs.«01_k».proof.Proof.Body

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Four slots turning through the block numbers -/

section Turn

/-- The number at or after `p` whose turn slot `s` takes next. -/
def nb (p : ℕ) (s : Fin 4) : ℕ := p + (s.val + 4 - p % 4) % 4

/-- The slot of `p` takes `p` next. -/
theorem nb_here (p : ℕ) : nb p (Ring.sl 4 p) = p := by
  unfold nb; rw [sl_val]; omega
/-- After `p` its slot takes `p + 4` next. -/
theorem nb_next (p : ℕ) : nb (p + 1) (Ring.sl 4 p) = p + 4 := by
  unfold nb; rw [sl_val]; omega
/-- Passing `p` leaves what the other slots take next. -/
theorem nb_other (p : ℕ) (s : Fin 4) (h : s ≠ Ring.sl 4 p) : nb (p + 1) s = nb p s := by
  have h' : s.val ≠ p % 4 := fun e => h (Fin.ext (e.trans (sl_val p).symm))
  have := s.isLt
  unfold nb; omega

omit [FloatOps F] in
/-- Four slots, one by one. -/
theorem bigSep_four (P : Fin 4 → sProp 𝕄) : bigSep Finset.univ P = iprop(P 0 ∗ P 1 ∗ P 2 ∗ P 3) :=
  bigSep_univ_eq_bigSepL [(0 : Fin 4), 1, 2, 3] (by decide) (by decide) P
omit [FloatOps F] in
/-- Four slots one by one, the first under the name of a multiple of four. -/
theorem bigSep_four_first (P : Fin 4 → sProp 𝕄) (k : ℕ) (hk : k % 4 = 0) : bigSep Finset.univ P = iprop(P (Ring.sl 4 k) ∗ P 1 ∗ P 2 ∗ P 3) := by
  have e : Ring.sl 4 k = 0 := Fin.ext ((sl_val k).trans hk)
  rw [e, bigSep_four]

/-- Every slot in the role its next number gives it. -/
abbrev turn (R : ℕ → Fin 4 → sProp 𝕄) (p : ℕ) (s : Fin 4) : sProp 𝕄 := R (nb p s) s

omit [FloatOps F] in
/-- Before point `p`, its slot beside the others. -/
theorem turn_here (R : ℕ → Fin 4 → sProp 𝕄) (p : ℕ) :
    bigSep Finset.univ (turn R p) = iprop(R p (Ring.sl 4 p) ∗ bigSep (Finset.univ.erase (Ring.sl 4 p)) (turn R p)) := by
  conv_lhs => rw [← Finset.insert_erase (Finset.mem_univ (Ring.sl 4 p)), bigSep_insert (Finset.notMem_erase _ _)]
  unfold turn; rw [nb_here]; rfl
omit [FloatOps F] in
/-- After point `p`, its slot, four numbers on, beside the others unchanged. -/
theorem turn_next (R : ℕ → Fin 4 → sProp 𝕄) (p : ℕ) :
    bigSep Finset.univ (turn R (p + 1)) = iprop(R (p + 4) (Ring.sl 4 p) ∗ bigSep (Finset.univ.erase (Ring.sl 4 p)) (turn R p)) := by
  conv_lhs => rw [← Finset.insert_erase (Finset.mem_univ (Ring.sl 4 p)), bigSep_insert (Finset.notMem_erase _ _)]
  rw [bigSep_congr (Ψ := turn R p) fun s hs => by unfold turn; rw [nb_other p s (Finset.ne_of_mem_erase hs)]]
  unfold turn; rw [nb_next]; rfl
omit [FloatOps F] in
/-- After the first point, the four slots' roles one by one. -/
theorem turn_first (R : ℕ → Fin 4 → sProp 𝕄) (k : ℕ) (hk : k = 0) :
    bigSep Finset.univ (turn R (k + 1)) = iprop(R (k + 4) (Ring.sl 4 k) ∗ R 1 1 ∗ R 2 2 ∗ R 3 3) := by
  subst hk; rw [bigSep_four]; rfl
omit [FloatOps F] in
/-- Before the last point, the four slots' roles one by one. -/
theorem turn_last (R : ℕ → Fin 4 → sProp 𝕄) (k : ℕ) (hk : k = 24) :
    bigSep Finset.univ (turn R k) = iprop(R k (Ring.sl 4 k) ∗ R 25 1 ∗ R 26 2 ∗ R 27 3) := by
  subst hk; rw [bigSep_four]; rfl

end Turn

/-! ## Blocks at home -/

section Home
omit [FloatOps F] in
/-- All blocks, as the first point takes them: its own, the three fetched with it, the one it fetches ahead, and the rest. -/
theorem home_first (P : Fin 25 → sProp 𝕄) (k : ℕ) (hk : k = 0) :
    bigSep Finset.univ P = iprop(P (Ring.bk 25 k) ∗ P 1 ∗ P 2 ∗ P 3 ∗ P (Ring.bk 25 (k + 4)) ∗ bigSep ((Ring.homeSet 4 k).erase (Ring.bk 25 (k + 4))) P) := by
  subst hk
  have e : (Finset.univ : Finset (Fin 25)) = insert 0 (insert 1 (insert 2 (insert 3 (insert 4 ((Ring.homeSet 4 0).erase 4))))) := by decide
  conv_lhs => rw [e, bigSep_insert (by decide), bigSep_insert (by decide), bigSep_insert (by decide), bigSep_insert (by decide), bigSep_insert (by decide)]
  rfl
omit [FloatOps F] in
/-- The blocks at home before `p`: the one fetched ahead, and the rest. -/
theorem home_here (P : Fin 25 → sProp 𝕄) (p : ℕ) (h : p + 4 < 25) :
    bigSep (Ring.homeSet 4 p) P = iprop(P (Ring.bk 25 (p + 4)) ∗ bigSep ((Ring.homeSet 4 p).erase (Ring.bk 25 (p + 4))) P) := by
  conv_lhs => rw [Ring.homeSet_out 4 p h, bigSep_insert (Ring.bkL_not_mem_erase 4 p)]
  rfl
omit [FloatOps F] in
/-- The blocks at home after `p`: its own, back, and the rest. -/
theorem home_next (P : Fin 25 → sProp 𝕄) (p : ℕ) (h : p + 4 < 25) :
    bigSep (Ring.homeSet 4 (p + 1)) P = iprop(P (Ring.bk 25 p) ∗ bigSep ((Ring.homeSet 4 p).erase (Ring.bk 25 (p + 4))) P) := by
  rw [Ring.homeSet_succ 4 p h, bigSep_insert (Ring.bk_not_mem_erase 4 p (by omega) (by omega))]; rfl
omit [FloatOps F] in
/-- When nothing is fetched ahead any more, the point's own block comes back to those at home. -/
theorem home_tail (P : Fin 25 → sProp 𝕄) (p : ℕ) (h : 25 ≤ p + 4) (hp : p < 25) :
    bigSep (Ring.homeSet 4 (p + 1)) P = iprop(P (Ring.bk 25 p) ∗ bigSep (Ring.homeSet 4 p) P) := by
  rw [Ring.homeSet_succ_tail 4 p h hp, bigSep_insert (Ring.bk_not_mem_homeSet 4 p hp (by omega))]; rfl
omit [FloatOps F] in
/-- After the last point every block is at home. -/
theorem home_last (P : Fin 25 → sProp 𝕄) (k : ℕ) (hk : k = 24) :
    bigSep Finset.univ P = iprop(P (Ring.bk 25 k) ∗ bigSep (Ring.homeSet 4 k) P) := by
  rw [← home_tail P k (by omega) (by omega), Ring.homeSet_last 4 (k + 1) (by omega)]

/-- The result blocks at home before point `p`: those collected and those not yet computed. -/
def outSet (p : ℕ) : Finset (Fin 25) := Finset.univ.filter fun b => b.val + 4 < p ∨ p ≤ b.val
/-- Membership, spelled out. -/
theorem mem_outSet (p : ℕ) (b : Fin 25) : b ∈ outSet p ↔ b.val + 4 < p ∨ p ≤ b.val := by
  simp only [outSet, Finset.mem_filter, Finset.mem_univ, true_and]
/-- Before the first point every result block is at home. -/
theorem outSet_zero : outSet 0 = Finset.univ := by
  ext b; rw [mem_outSet]; simp

omit [FloatOps F] in
/-- The result blocks at home before `p`: the point's own, and the rest. -/
theorem out_here (P : Fin 25 → sProp 𝕄) (p : ℕ) (h : p < 25) :
    bigSep (outSet p) P = iprop(P (Ring.bk 25 p) ∗ bigSep ((outSet p).erase (Ring.bk 25 p)) P) := by
  have hm : Ring.bk 25 p ∈ outSet p := by rw [mem_outSet, Ring.bk_val h]; omega
  conv_lhs => rw [← Finset.insert_erase hm, bigSep_insert (Finset.notMem_erase _ _)]
  rfl
/-- A point that collects nothing takes its own block away. -/
theorem outSet_low (p : ℕ) (h : p < 4) : outSet (p + 1) = (outSet p).erase (Ring.bk 25 p) := by
  ext b; rw [mem_outSet, Finset.mem_erase, mem_outSet, Ne, Fin.ext_iff, Ring.bk_val (by omega)]; omega
omit [FloatOps F] in
/-- After a point that collects: the block collected, and the rest. -/
theorem out_next (P : Fin 25 → sProp 𝕄) (p : ℕ) (h4 : 4 ≤ p) (h : p < 25) :
    bigSep (outSet (p + 1)) P = iprop(P (Ring.bk 25 (p - 4)) ∗ bigSep ((outSet p).erase (Ring.bk 25 p)) P) := by
  have e : outSet (p + 1) = insert (Ring.bk 25 (p - 4)) ((outSet p).erase (Ring.bk 25 p)) := by
    ext b; rw [mem_outSet, Finset.mem_insert, Finset.mem_erase, mem_outSet, Ne, Fin.ext_iff, Fin.ext_iff, Ring.bk_val h, Ring.bk_val (by omega)]; omega
  have hn : Ring.bk 25 (p - 4) ∉ (outSet p).erase (Ring.bk 25 p) := by
    rw [Finset.mem_erase, mem_outSet, Ring.bk_val (by omega)]; omega
  rw [e, bigSep_insert hn]; rfl
omit [FloatOps F] in
/-- At the end every result block is home: the collected ones, the drained ones, and the rest. -/
theorem out_last (P : Fin 25 → sProp 𝕄) (k : ℕ) (hk : k = 24) :
    bigSep Finset.univ P = iprop(P (Ring.bk 25 (k - 4)) ∗ P 21 ∗ P 22 ∗ P 23 ∗ P (Ring.bk 25 k) ∗ bigSep ((outSet k).erase (Ring.bk 25 k)) P) := by
  subst hk
  have e : (Finset.univ : Finset (Fin 25)) = insert 20 (insert 21 (insert 22 (insert 23 (insert 24 ((outSet 24).erase 24))))) := by decide
  conv_lhs => rw [e, bigSep_insert (by decide), bigSep_insert (by decide), bigSep_insert (by decide), bigSep_insert (by decide), bigSep_insert (by decide)]
  rfl

end Home

/-! ## The invariant -/

variable (c : Dev nD)
  (XA : Buf (Elt F) ((c : Thread nD τ).loc main_arg0)) (TA : Buf (Elt F) ((c : Thread nD τ).loc main_v0))
  (val : Fin 25 → S2000x256.Idx → Elt F .f32)

/-- A row slot's role: block `n` on its way in if there is one. -/
def roleX (n : ℕ) (s : Fin 4) : sProp 𝕄 := if n < 25 then xOn c XA s (Ring.bk 25 n) else xFree c s
/-- A type slot's role: block `n` on its way in if there is one. -/
def roleT (n : ℕ) (s : Fin 4) : sProp 𝕄 := if n < 25 then tOn c TA s (Ring.bk 25 n) else tFree c s
/-- A result slot's role: the block four before `n` on its way out if there is one. -/
def roleO (n : ℕ) (s : Fin 4) : sProp 𝕄 := if 4 ≤ n then oOn c s (Ring.bk 25 (n - 4)) (val (Ring.bk 25 (n - 4))) else oFree c s
/-- A result block at home before point `p`: computed if its point has passed, else as it was found. -/
def oAt (p : ℕ) (b : Fin 25) : sProp 𝕄 := if b.val < p then oDone c b (val b) else iprop(∃ f, oHome c b f)

/-- A row slot whose next number is a block has it on its way in. -/
theorem roleX_lt {n : ℕ} (h : n < 25) (s : Fin 4) : roleX c XA n s = xOn c XA s (Ring.bk 25 n) := if_pos h
/-- A row slot whose next number is past the blocks is in hand. -/
theorem roleX_ge {n : ℕ} (h : ¬ n < 25) (s : Fin 4) : roleX c XA n s = xFree c s := if_neg h
/-- A type slot whose next number is a block has it on its way in. -/
theorem roleT_lt {n : ℕ} (h : n < 25) (s : Fin 4) : roleT c TA n s = tOn c TA s (Ring.bk 25 n) := if_pos h
/-- A type slot whose next number is past the blocks is in hand. -/
theorem roleT_ge {n : ℕ} (h : ¬ n < 25) (s : Fin 4) : roleT c TA n s = tFree c s := if_neg h
/-- A result slot from its second turn on has its earlier block on the way out. -/
theorem roleO_ge {n : ℕ} (h : 4 ≤ n) (s : Fin 4) : roleO c val n s = oOn c s (Ring.bk 25 (n - 4)) (val (Ring.bk 25 (n - 4))) := if_pos h
/-- A result slot before its first turn is in hand. -/
theorem roleO_lt {n : ℕ} (h : ¬ 4 ≤ n) (s : Fin 4) : roleO c val n s = oFree c s := if_neg h
/-- A result slot just written out carries the point's block. -/
theorem roleO_new (n : ℕ) (s : Fin 4) : roleO c val (n + 4) s = oOn c s (Ring.bk 25 n) (val (Ring.bk 25 n)) := by
  rw [roleO_ge c val (by omega), Nat.add_sub_cancel]
/-- The point's own result block is as it was found. -/
theorem oAt_here (p : ℕ) (h : p < 25) : oAt c val p (Ring.bk 25 p) = iprop(∃ f, oHome c (Ring.bk 25 p) f) := by
  unfold oAt; rw [Ring.bk_val h, if_neg (by omega)]
/-- A collected result block is computed. -/
theorem oAt_back (p : ℕ) (h4 : 4 ≤ p) (h : p < 25) : oAt c val (p + 1) (Ring.bk 25 (p - 4)) = oDone c (Ring.bk 25 (p - 4)) (val (Ring.bk 25 (p - 4))) := by
  unfold oAt; rw [Ring.bk_val (by omega), if_pos (by omega)]
/-- Passing `p` changes nothing for the blocks other than its own. -/
theorem oAt_rest (p : ℕ) (h : p < 25) :
    bigSep ((outSet p).erase (Ring.bk 25 p)) (oAt c val (p + 1)) = bigSep ((outSet p).erase (Ring.bk 25 p)) (oAt c val p) :=
  bigSep_congr fun b hb => by
    have hb' := Finset.ne_of_mem_erase hb
    rw [Ne, Fin.ext_iff, Ring.bk_val h] at hb'
    unfold oAt
    by_cases hlt : b.val < p
    · rw [if_pos hlt, if_pos (by omega)]
    · rw [if_neg hlt, if_neg (by omega)]
/-- Before the last point all other blocks at home are computed. -/
theorem oAt_all (k : ℕ) (hk : k = 24) :
    bigSep ((outSet k).erase (Ring.bk 25 k)) (oAt c val k) = bigSep ((outSet k).erase (Ring.bk 25 k)) (fun b => oDone c b (val b)) :=
  bigSep_congr fun b hb => by
    have hb' := Finset.ne_of_mem_erase hb
    rw [Ne, Fin.ext_iff, Ring.bk_val (by omega)] at hb'
    have := b.isLt
    unfold oAt; rw [if_pos (by omega)]

/-- Before the first point: everything in hand. -/
def Zero : sProp 𝕄 :=
  iprop(bigSep Finset.univ (fun s => xFree c s) ∗ bigSep Finset.univ (fun s => tFree c s) ∗ bigSep Finset.univ (fun s => oFree c s)
    ∗ bigSep Finset.univ (xHome c XA) ∗ bigSep Finset.univ (tHome c TA) ∗ bigSep Finset.univ (oAt c val 0))
/-- Before point `p`, `1 ≤ p ≤ 24`. -/
def Mid (p : ℕ) : sProp 𝕄 :=
  iprop(bigSep Finset.univ (turn (roleX c XA) p) ∗ bigSep Finset.univ (turn (roleT c TA) p) ∗ bigSep Finset.univ (turn (roleO c val) p)
    ∗ bigSep (Ring.homeSet 4 p) (xHome c XA) ∗ bigSep (Ring.homeSet 4 p) (tHome c TA) ∗ bigSep (outSet p) (oAt c val p))
/-- After the last point: everything in hand, every result block computed. -/
def Done : sProp 𝕄 :=
  iprop(bigSep Finset.univ (fun s => xFree c s) ∗ bigSep Finset.univ (fun s => tFree c s) ∗ bigSep Finset.univ (fun s => oFree c s)
    ∗ bigSep Finset.univ (xHome c XA) ∗ bigSep Finset.univ (tHome c TA) ∗ bigSep Finset.univ (fun b => oDone c b (val b)))
/-- What the kernel holds before point `p`. -/
def Inv (p : ℕ) : sProp 𝕄 := if p = 0 then Zero c XA TA val else if p < 25 then Mid c XA TA val p else Done c XA TA val

/-- The invariant before the first point. -/
theorem Inv_zero : Inv c XA TA val 0 = Zero c XA TA val := if_pos rfl
/-- The invariant between two points. -/
theorem Inv_mid {p : ℕ} (h0 : p ≠ 0) (h : p < 25) : Inv c XA TA val p = Mid c XA TA val p := by unfold Inv; rw [if_neg h0, if_pos h]
/-- The invariant after the last point. -/
theorem Inv_done {p : ℕ} (h : 25 ≤ p) : Inv c XA TA val p = Done c XA TA val := by unfold Inv; rw [if_neg (by omega), if_neg (by omega)]

/-! ## The body takes it from one point to the next -/

variable (arg3 : Memref sig .tc .vmem S256x1024 .bf16) (harg3 : arg3.IsWhole) (arg4 : Memref sig .tc .vmem S4x256 .f32) (harg4 : arg4.IsWhole)
  (i : grid0.Coords) (gW : Buf (Elt F) (arg3.view.loc (c : Thread nD τ))) (gB : Buf (Elt F) (arg4.view.loc (c : Thread nD τ)))
  (hval : ∀ b, blkVal c XA TA arg3 arg4 gW gB b = val b) (W : Finset (SemLoc sig × Unit))

/-- What a point is given. -/
abbrev Given (Q : PUnit → sProp 𝕄) : sProp 𝕄 :=
  iprop(Inv c XA TA val (i 0).val ∗ wP c arg3 gW ∗ bP c arg4 gB ∗ owes (c : Thread nD τ) 0 W
    ∗ ((Inv c XA TA val ((i 0).val + 1) ∗ wP c arg3 gW ∗ bP c arg4 gB ∗ (∃ W', owes (c : Thread nD τ) 0 W')) -∗ Q PUnit.unit))

include hval in
/-- A point with a block to collect and a block to fetch ahead. -/
theorem point_mid (Q : PUnit → sProp 𝕄) (h4 : 4 ≤ (i 0).val) (h20 : (i 0).val + 4 < 25) :
    Given c XA TA val arg3 arg4 i gW gB W Q
      ⊢ wp frame (wpE (defs₀ (F := F)) 𝒱₀ (c : Thread nD τ) none) Set.univ (bodyG arg3 harg3 arg4 harg4 i) Q := by
  unfold Given
  rw [Inv_mid c XA TA val (p := (i 0).val) (by omega) (by omega), Inv_mid c XA TA val (p := (i 0).val + 1) (by omega) (by omega)]
  unfold Mid
  rw [turn_here, turn_here, turn_here, turn_next, turn_next, turn_next, home_here _ _ h20, home_here _ _ h20, home_next _ _ h20, home_next _ _ h20,
    out_here _ _ (by omega), out_next _ _ h4 (by omega), oAt_here c val _ (by omega), oAt_back c val _ h4 (by omega), oAt_rest c val _ (by omega),
    roleX_lt c XA (n := (i 0).val) (by omega), roleX_lt c XA (n := (i 0).val + 4) h20, roleT_lt c TA (n := (i 0).val) (by omega), roleT_lt c TA (n := (i 0).val + 4) h20,
    roleO_new, roleO_ge c val h4]
  iintro ⟨⟨⟨⟨%fx, HX⟩, RX⟩, ⟨⟨%ft, HT⟩, RT⟩, ⟨⟨%go, %fo, %hv, HO⟩, RO⟩, ⟨Hx, RHx⟩, ⟨Ht, RHt⟩, ⟨⟨%fo', Ho⟩, RHo⟩⟩, HW, HB, Howes, K⟩
  iapply (run_mid c XA TA arg3 harg3 arg4 harg4 i gW gB W fx ft go fo fo' h4 h20 (hv.trans (hval _).symm) Q)
  rw [hval, hval]
  isplitl [HW]; · iexact HW
  isplitl [HB]; · iexact HB
  isplitl [Howes]; · iexact Howes
  isplitl [HX]; · iexact HX
  isplitl [HT]; · iexact HT
  isplitl [HO]; · iexact HO
  isplitl [Hx]; · iexact Hx
  isplitl [Ht]; · iexact Ht
  isplitl [Ho]; · iexact Ho
  iintro ⟨HW, HB, Howes, HX, HT, HO, Hx, Ht, Ho⟩
  iapply K
  isplitr [HW HB Howes]
  rotate_left
  · isplitl [HW]; · iexact HW
    isplitl [HB]; · iexact HB
    iexact Howes
  isplitl [HX RX]
  · isplitl [HX]; · iexact HX
    iexact RX
  isplitl [HT RT]
  · isplitl [HT]; · iexact HT
    iexact RT
  isplitl [HO RO]
  · isplitl [HO]; · iexact HO
    iexact RO
  isplitl [Hx RHx]
  · isplitl [Hx]; · iexact Hx
    iexact RHx
  isplitl [Ht RHt]
  · isplitl [Ht]; · iexact Ht
    iexact RHt
  isplitl [Ho]; · iexact Ho
  iexact RHo

include hval in
/-- A point with nothing to collect yet, past the first. -/
theorem point_low (Q : PUnit → sProp 𝕄) (h0 : (i 0).val ≠ 0) (h4 : (i 0).val < 4) :
    Given c XA TA val arg3 arg4 i gW gB W Q
      ⊢ wp frame (wpE (defs₀ (F := F)) 𝒱₀ (c : Thread nD τ) none) Set.univ (bodyG arg3 harg3 arg4 harg4 i) Q := by
  unfold Given
  rw [Inv_mid c XA TA val (p := (i 0).val) h0 (by omega), Inv_mid c XA TA val (p := (i 0).val + 1) (by omega) (by omega)]
  unfold Mid
  rw [turn_here, turn_here, turn_here, turn_next, turn_next, turn_next, home_here _ _ (by omega), home_here _ _ (by omega), home_next _ _ (by omega), home_next _ _ (by omega),
    out_here _ _ (by omega), outSet_low _ h4, oAt_here c val _ (by omega), oAt_rest c val _ (by omega),
    roleX_lt c XA (n := (i 0).val) (by omega), roleX_lt c XA (n := (i 0).val + 4) (by omega), roleT_lt c TA (n := (i 0).val) (by omega), roleT_lt c TA (n := (i 0).val + 4) (by omega),
    roleO_new, roleO_lt c val (n := (i 0).val) (by omega)]
  iintro ⟨⟨⟨⟨%fx, HX⟩, RX⟩, ⟨⟨%ft, HT⟩, RT⟩, ⟨⟨⟨%go, HS⟩, HO⟩, RO⟩, ⟨Hx, RHx⟩, ⟨Ht, RHt⟩, ⟨⟨%fo', Ho⟩, RHo⟩⟩, HW, HB, Howes, K⟩
  iapply (run_low c XA TA arg3 harg3 arg4 harg4 i gW gB W fx ft go fo' h0 h4 Q)
  rw [hval]
  isplitl [HW]; · iexact HW
  isplitl [HB]; · iexact HB
  isplitl [Howes]; · iexact Howes
  isplitl [HX]; · iexact HX
  isplitl [HT]; · iexact HT
  isplitl [HS]; · iexact HS
  isplitl [HO]; · iexact HO
  isplitl [Hx]; · iexact Hx
  isplitl [Ht]; · iexact Ht
  isplitl [Ho]; · iexact Ho
  iintro ⟨HW, HB, Howes, HX, HT, HO, Hx, Ht⟩
  iapply K
  isplitr [HW HB Howes]
  rotate_left
  · isplitl [HW]; · iexact HW
    isplitl [HB]; · iexact HB
    iexact Howes
  isplitl [HX RX]
  · isplitl [HX]; · iexact HX
    iexact RX
  isplitl [HT RT]
  · isplitl [HT]; · iexact HT
    iexact RT
  isplitl [HO RO]
  · isplitl [HO]; · iexact HO
    iexact RO
  isplitl [Hx RHx]
  · isplitl [Hx]; · iexact Hx
    iexact RHx
  isplitl [Ht RHt]
  · isplitl [Ht]; · iexact Ht
    iexact RHt
  iexact RHo

include hval in
/-- A point with a block to collect and nothing more to fetch, before the last. -/
theorem point_tail (Q : PUnit → sProp 𝕄) (h20 : ¬ (i 0).val + 4 < 25) (h24 : (i 0).val ≠ 24) :
    Given c XA TA val arg3 arg4 i gW gB W Q
      ⊢ wp frame (wpE (defs₀ (F := F)) 𝒱₀ (c : Thread nD τ) none) Set.univ (bodyG arg3 harg3 arg4 harg4 i) Q := by
  have h25 := coord_lt i
  have h4 : 4 ≤ (i 0).val := by omega
  unfold Given
  rw [Inv_mid c XA TA val (p := (i 0).val) (by omega) (by omega), Inv_mid c XA TA val (p := (i 0).val + 1) (by omega) (by omega)]
  unfold Mid
  rw [turn_here, turn_here, turn_here, turn_next, turn_next, turn_next, home_tail _ _ (by omega) h25, home_tail _ _ (by omega) h25,
    out_here _ _ (by omega), out_next _ _ h4 (by omega), oAt_here c val _ (by omega), oAt_back c val _ h4 (by omega), oAt_rest c val _ (by omega),
    roleX_lt c XA (n := (i 0).val) h25, roleX_ge c XA (n := (i 0).val + 4) h20, roleT_lt c TA (n := (i 0).val) h25, roleT_ge c TA (n := (i 0).val + 4) h20,
    roleO_new, roleO_ge c val h4]
  iintro ⟨⟨⟨⟨%fx, HX⟩, RX⟩, ⟨⟨%ft, HT⟩, RT⟩, ⟨⟨%go, %fo, %hv, HO⟩, RO⟩, RHx, RHt, ⟨⟨%fo', Ho⟩, RHo⟩⟩, HW, HB, Howes, K⟩
  iapply (run_tail c XA TA arg3 harg3 arg4 harg4 i gW gB W fx ft go fo fo' h4 h20 h24 (hv.trans (hval _).symm) Q)
  rw [hval, hval]
  isplitl [HW]; · iexact HW
  isplitl [HB]; · iexact HB
  isplitl [Howes]; · iexact Howes
  isplitl [HX]; · iexact HX
  isplitl [HT]; · iexact HT
  isplitl [HO]; · iexact HO
  isplitl [Ho]; · iexact Ho
  iintro ⟨HW, HB, Howes, HX, HT, HO, Hx, Ht, Ho⟩
  iapply K
  isplitr [HW HB Howes]
  rotate_left
  · isplitl [HW]; · iexact HW
    isplitl [HB]; · iexact HB
    iexact Howes
  isplitl [HX RX]
  · isplitl [HX]; · iexact HX
    iexact RX
  isplitl [HT RT]
  · isplitl [HT]; · iexact HT
    iexact RT
  isplitl [HO RO]
  · isplitl [HO]; · iexact HO
    iexact RO
  isplitl [Hx RHx]
  · isplitl [Hx]; · iexact Hx
    iexact RHx
  isplitl [Ht RHt]
  · isplitl [Ht]; · iexact Ht
    iexact RHt
  isplitl [Ho]; · iexact Ho
  iexact RHo

/-- Before the first point, spelled as the first point uses it. -/
theorem Zero_eq (k : ℕ) (hk : k = 0) : Zero c XA TA val
    = iprop((xFree c (Ring.sl 4 k) ∗ xFree c 1 ∗ xFree c 2 ∗ xFree c 3) ∗ (tFree c (Ring.sl 4 k) ∗ tFree c 1 ∗ tFree c 2 ∗ tFree c 3)
      ∗ (oFree c (Ring.sl 4 k) ∗ bigSep (Finset.univ.erase (Ring.sl 4 k)) (turn (roleO c val) k))
      ∗ (xHome c XA (Ring.bk 25 k) ∗ xHome c XA 1 ∗ xHome c XA 2 ∗ xHome c XA 3 ∗ xHome c XA (Ring.bk 25 (k + 4)) ∗ bigSep ((Ring.homeSet 4 k).erase (Ring.bk 25 (k + 4))) (xHome c XA))
      ∗ (tHome c TA (Ring.bk 25 k) ∗ tHome c TA 1 ∗ tHome c TA 2 ∗ tHome c TA 3 ∗ tHome c TA (Ring.bk 25 (k + 4)) ∗ bigSep ((Ring.homeSet 4 k).erase (Ring.bk 25 (k + 4))) (tHome c TA))
      ∗ ((∃ f, oHome c (Ring.bk 25 k) f) ∗ bigSep ((outSet k).erase (Ring.bk 25 k)) (oAt c val k))) := by
  have eo : bigSep Finset.univ (fun s => oFree (F := F) c s) = bigSep Finset.univ (turn (roleO c val) k) :=
    bigSep_congr fun s _ => by
      have hs := s.isLt
      exact (roleO_lt c val (n := nb k s) (by unfold nb; subst hk; omega) s).symm
  have eh : bigSep Finset.univ (oAt c val 0) = bigSep (outSet k) (oAt c val k) := by subst hk; rw [outSet_zero]
  unfold Zero
  rw [eo, eh, turn_here, roleO_lt c val (n := k) (by omega), out_here _ k (by omega), oAt_here c val k (by omega),
    home_first _ k hk, home_first _ k hk, bigSep_four_first _ k (by omega), bigSep_four_first _ k (by omega)]

include hval in
/-- The first point. -/
theorem point_first (Q : PUnit → sProp 𝕄) (h0 : (i 0).val = 0) :
    Given c XA TA val arg3 arg4 i gW gB W Q
      ⊢ wp frame (wpE (defs₀ (F := F)) 𝒱₀ (c : Thread nD τ) none) Set.univ (bodyG arg3 harg3 arg4 harg4 i) Q := by
  have hz : Inv c XA TA val (i 0).val = Zero c XA TA val := by rw [h0]; exact Inv_zero c XA TA val
  unfold Given
  rw [hz, Zero_eq c XA TA val (i 0).val h0, Inv_mid c XA TA val (p := (i 0).val + 1) (by omega) (by omega)]
  unfold Mid
  rw [turn_first _ _ h0, turn_first _ _ h0, turn_next, home_next _ _ (by omega), home_next _ _ (by omega), outSet_low _ (by omega), oAt_rest c val _ (by omega),
    roleX_lt c XA (n := (i 0).val + 4) (by omega), roleX_lt c XA (n := 1) (by omega), roleX_lt c XA (n := 2) (by omega), roleX_lt c XA (n := 3) (by omega),
    roleT_lt c TA (n := (i 0).val + 4) (by omega), roleT_lt c TA (n := 1) (by omega), roleT_lt c TA (n := 2) (by omega), roleT_lt c TA (n := 3) (by omega),
    roleO_new]
  iintro ⟨⟨⟨⟨⟨%x0, Xs0⟩, Xc0⟩, ⟨⟨%x1, Xs1⟩, Xc1⟩, ⟨⟨%x2, Xs2⟩, Xc2⟩, ⟨⟨%x3, Xs3⟩, Xc3⟩⟩, ⟨⟨⟨%t0, Ts0⟩, Tc0⟩, ⟨⟨%t1, Ts1⟩, Tc1⟩, ⟨⟨%t2, Ts2⟩, Tc2⟩, ⟨⟨%t3, Ts3⟩, Tc3⟩⟩, ⟨⟨⟨%go, HS⟩, HO⟩, RO⟩, ⟨Xh0, Xh1, Xh2, Xh3, Hx, RHx⟩, ⟨Th0, Th1, Th2, Th3, Ht, RHt⟩, ⟨⟨%fo', Ho⟩, RHo⟩⟩, HW, HB, Howes, K⟩
  iapply (run_first c XA TA arg3 harg3 arg4 harg4 i gW gB W x0 x1 x2 x3 t0 t1 t2 t3 go fo' h0 Q)
  rw [hval]
  isplitl [HW]; · iexact HW
  isplitl [HB]; · iexact HB
  isplitl [Howes]; · iexact Howes
  isplitl [Xs0]; · iexact Xs0
  isplitl [Xc0]; · iexact Xc0
  isplitl [Ts0]; · iexact Ts0
  isplitl [Tc0]; · iexact Tc0
  isplitl [Xh0]; · iexact Xh0
  isplitl [Th0]; · iexact Th0
  isplitl [Xs1]; · iexact Xs1
  isplitl [Xc1]; · iexact Xc1
  isplitl [Ts1]; · iexact Ts1
  isplitl [Tc1]; · iexact Tc1
  isplitl [Xh1]; · iexact Xh1
  isplitl [Th1]; · iexact Th1
  isplitl [Xs2]; · iexact Xs2
  isplitl [Xc2]; · iexact Xc2
  isplitl [Ts2]; · iexact Ts2
  isplitl [Tc2]; · iexact Tc2
  isplitl [Xh2]; · iexact Xh2
  isplitl [Th2]; · iexact Th2
  isplitl [Xs3]; · iexact Xs3
  isplitl [Xc3]; · iexact Xc3
  isplitl [Ts3]; · iexact Ts3
  isplitl [Tc3]; · iexact Tc3
  isplitl [Xh3]; · iexact Xh3
  isplitl [Th3]; · iexact Th3
  isplitl [Hx]; · iexact Hx
  isplitl [Ht]; · iexact Ht
  isplitl [HS]; · iexact HS
  isplitl [HO]; · iexact HO
  isplitl [Ho]; · iexact Ho
  iintro ⟨HW, HB, Howes, HX, HT, HO, Hx, Ht⟩
  iapply K
  isplitr [HW HB Howes]
  rotate_left
  · isplitl [HW]; · iexact HW
    isplitl [HB]; · iexact HB
    iexact Howes
  isplitl [HX]; · iexact HX
  isplitl [HT]; · iexact HT
  isplitl [HO RO]
  · isplitl [HO]; · iexact HO
    iexact RO
  isplitl [Hx RHx]
  · isplitl [Hx]; · iexact Hx
    iexact RHx
  isplitl [Ht RHt]
  · isplitl [Ht]; · iexact Ht
    iexact RHt
  iexact RHo

include hval in
/-- The last point. -/
theorem point_last (Q : PUnit → sProp 𝕄) (h24 : (i 0).val = 24) :
    Given c XA TA val arg3 arg4 i gW gB W Q
      ⊢ wp frame (wpE (defs₀ (F := F)) 𝒱₀ (c : Thread nD τ) none) Set.univ (bodyG arg3 harg3 arg4 harg4 i) Q := by
  unfold Given
  rw [Inv_mid c XA TA val (p := (i 0).val) (by omega) (by omega), Inv_done c XA TA val (p := (i 0).val + 1) (by omega)]
  unfold Mid Done
  rw [turn_last _ _ h24, turn_last _ _ h24, turn_last _ _ h24,
    bigSep_four_first (fun s => xFree (F := F) c s) (i 0).val (by omega), bigSep_four_first (fun s => tFree (F := F) c s) (i 0).val (by omega), bigSep_four_first (fun s => oFree (F := F) c s) (i 0).val (by omega),
    home_last (xHome c XA) (i 0).val h24, home_last (tHome c TA) (i 0).val h24, out_last (fun b => oDone c b (val b)) (i 0).val h24,
    out_here _ _ (by omega), oAt_here c val _ (by omega), oAt_all c val _ h24,
    roleX_lt c XA (n := (i 0).val) (by omega), roleX_ge c XA (n := 25) (by omega), roleX_ge c XA (n := 26) (by omega), roleX_ge c XA (n := 27) (by omega),
    roleT_lt c TA (n := (i 0).val) (by omega), roleT_ge c TA (n := 25) (by omega), roleT_ge c TA (n := 26) (by omega), roleT_ge c TA (n := 27) (by omega),
    roleO_ge c val (n := (i 0).val) (by omega),
    show roleO c val 25 1 = oOn c 1 21 (val 21) from roleO_ge c val (by omega) 1,
    show roleO c val 26 2 = oOn c 2 22 (val 22) from roleO_ge c val (by omega) 2,
    show roleO c val 27 3 = oOn c 3 23 (val 23) from roleO_ge c val (by omega) 3]
  iintro ⟨⟨⟨⟨%fx, HX⟩, X1, X2, X3⟩, ⟨⟨%ft, HT⟩, T1, T2, T3⟩, ⟨⟨%go, %fo, %hv, HO⟩, ⟨%g1, %f1, %hv1, HO1⟩, ⟨%g2, %f2, %hv2, HO2⟩, ⟨%g3, %f3, %hv3, HO3⟩⟩, RHx, RHt, ⟨⟨%fo', Ho⟩, RHo⟩⟩, HW, HB, Howes, K⟩
  iapply (run_last c XA TA arg3 harg3 arg4 harg4 i gW gB W fx ft go fo g1 f1 g2 f2 g3 f3 fo' h24 (hv.trans (hval _).symm) (hv1.trans (hval _).symm) (hv2.trans (hval _).symm) (hv3.trans (hval _).symm) Q)
  rw [hval, hval, hval, hval, hval]
  isplitl [HW]; · iexact HW
  isplitl [HB]; · iexact HB
  isplitl [Howes]; · iexact Howes
  isplitl [HX]; · iexact HX
  isplitl [HT]; · iexact HT
  isplitl [HO]; · iexact HO
  isplitl [HO1]; · iexact HO1
  isplitl [HO2]; · iexact HO2
  isplitl [HO3]; · iexact HO3
  isplitl [Ho]; · iexact Ho
  iintro ⟨HW, HB, Howes, HX, HT, HO, Hx, Ht, H20, H21, H22, H23, H24⟩
  iapply K
  isplitr [HW HB Howes]
  rotate_left
  · isplitl [HW]; · iexact HW
    isplitl [HB]; · iexact HB
    iexact Howes
  isplitl [HX X1 X2 X3]
  · isplitl [HX]; · iexact HX
    isplitl [X1]; · iexact X1
    isplitl [X2]; · iexact X2
    iexact X3
  isplitl [HT T1 T2 T3]
  · isplitl [HT]; · iexact HT
    isplitl [T1]; · iexact T1
    isplitl [T2]; · iexact T2
    iexact T3
  isplitl [HO]; · iexact HO
  isplitl [Hx RHx]
  · isplitl [Hx]; · iexact Hx
    iexact RHx
  isplitl [Ht RHt]
  · isplitl [Ht]; · iexact Ht
    iexact RHt
  isplitl [H20]; · iexact H20
  isplitl [H21]; · iexact H21
  isplitl [H22]; · iexact H22
  isplitl [H23]; · iexact H23
  isplitl [H24]; · iexact H24
  iexact RHo

include hval in
/-- Any point. -/
theorem point (Q : PUnit → sProp 𝕄) :
    Given c XA TA val arg3 arg4 i gW gB W Q
      ⊢ wp frame (wpE (defs₀ (F := F)) 𝒱₀ (c : Thread nD τ) none) Set.univ (bodyG arg3 harg3 arg4 harg4 i) Q := by
  have h25 := coord_lt i
  by_cases h0 : (i 0).val = 0
  · exact point_first c XA TA val arg3 harg3 arg4 harg4 i gW gB hval W Q h0
  by_cases h4 : (i 0).val < 4
  · exact point_low c XA TA val arg3 harg3 arg4 harg4 i gW gB hval W Q h0 h4
  by_cases h20 : (i 0).val + 4 < 25
  · exact point_mid c XA TA val arg3 harg3 arg4 harg4 i gW gB hval W Q (by omega) h20
  by_cases h24 : (i 0).val = 24
  · exact point_last c XA TA val arg3 harg3 arg4 harg4 i gW gB hval W Q h24
  · exact point_tail c XA TA val arg3 harg3 arg4 harg4 i gW gB hval W Q h20 h24

end Cert.Proof.Rows
end
-- ==== Proof.Split.lean ====
/-
  Whole buffers and their pieces: each array is its twenty-five blocks and each scratch buffer its four slots, and the
  kernel's own semaphores are the twelve slots' semaphores.
-/
module

public import proofs.«01_k».proof.Proof.Body
public import Idealize.ShloMosaic.Lib.ValueIdxCore

@[expose] public section

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig Unit (Elt F) ℕ (UU nD τ) ℕ

/-! ## Element sets -/

/-- The elements of block `b` of a wide array. -/
abbrev wideSet (b : Fin 25) : Finset S50000x256.Idx := (Rect.unit (s := S50000x256) (rowOff b) S2000x256.size (rowOff_inb_wide b)).set
/-- The elements of block `b` of the type column. -/
abbrev colSet (b : Fin 25) : Finset S50000x1.Idx := (Rect.unit (s := S50000x1) (rowOff b) S2000x1.size (rowOff_inb_col b)).set
/-- The elements of slot `s` of a wide buffer. -/
abbrev slotSetW (s : Fin 4) : Finset S4x2000x256.Idx := (Rect.unit (s := S4x2000x256) (slotOff s) S1x2000x256.size (slotOff_inb_wide s)).set
/-- The elements of slot `s` of the type buffer. -/
abbrev slotSetC (s : Fin 4) : Finset S4x2000x1.Idx := (Rect.unit (s := S4x2000x1) (slotOff s) S1x2000x1.size (slotOff_inb_col s)).set

/-- The elements of a row block. -/
theorem xBlk_set (b : Fin 25) : (xBlk b).view.set = wideSet b := View.set_slice_whole _ _
/-- The elements of a type block. -/
theorem tBlk_set (b : Fin 25) : (tBlk b).view.set = colSet b := View.set_slice_whole _ _
/-- The elements of a result block. -/
theorem oBlk_set (b : Fin 25) : (oBlk b).view.set = wideSet b := View.set_slice_whole _ _
/-- The elements of a row slot. -/
theorem xSlot_set (s : Fin 4) : (xSlot s).view.set = slotSetW s := (View.set_reshape _ _).trans (View.set_slice_whole _ _)
/-- The elements of a type slot. -/
theorem tSlot_set (s : Fin 4) : (tSlot s).view.set = slotSetC s := (View.set_reshape _ _).trans (View.set_slice_whole _ _)
/-- The elements of a result slot. -/
theorem oSlot_set (s : Fin 4) : (oSlot s).view.set = slotSetW s := (View.set_reshape _ _).trans (View.set_slice_whole _ _)

/-- A row is in the block its number falls in. -/
theorem mem_wideSet (b : Fin 25) (y : S50000x256.Idx) : y ∈ wideSet b ↔ (y 0).val / 2000 = b.val := by
  rw [Rect.mem_set_unit]
  have h1 : (y 1).val < 256 := (y 1).isLt
  constructor
  · intro H; have a0 : 2000 * b.val ≤ (y 0).val ∧ (y 0).val < 2000 * b.val + 2000 := H 0; omega
  · intro H i; fin_cases i
    · show 2000 * b.val ≤ (y 0).val ∧ (y 0).val < 2000 * b.val + 2000; omega
    · show 0 ≤ (y 1).val ∧ (y 1).val < 0 + 256; omega
/-- The same for the types. -/
theorem mem_colSet (b : Fin 25) (y : S50000x1.Idx) : y ∈ colSet b ↔ (y 0).val / 2000 = b.val := by
  rw [Rect.mem_set_unit]
  have h1 : (y 1).val < 1 := (y 1).isLt
  constructor
  · intro H; have a0 : 2000 * b.val ≤ (y 0).val ∧ (y 0).val < 2000 * b.val + 2000 := H 0; omega
  · intro H i; fin_cases i
    · show 2000 * b.val ≤ (y 0).val ∧ (y 0).val < 2000 * b.val + 2000; omega
    · show 0 ≤ (y 1).val ∧ (y 1).val < 0 + 1; omega
/-- An element is in the slot its first index names. -/
theorem mem_slotSetW (s : Fin 4) (y : S4x2000x256.Idx) : y ∈ slotSetW s ↔ (y 0).val = s.val := by
  rw [Rect.mem_set_unit]
  have h1 : (y 1).val < 2000 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2000; omega
    · show 0 ≤ (y 2).val ∧ (y 2).val < 0 + 256; omega
/-- The same for the type buffer. -/
theorem mem_slotSetC (s : Fin 4) (y : S4x2000x1.Idx) : y ∈ slotSetC s ↔ (y 0).val = s.val := by
  rw [Rect.mem_set_unit]
  have h1 : (y 1).val < 2000 := (y 1).isLt
  have h2 : (y 2).val < 1 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2000; omega
    · show 0 ≤ (y 2).val ∧ (y 2).val < 0 + 1; omega

section

/-- Two blocks of rows share no element. -/
theorem wideSet_disjoint : ∀ b b' : Fin 25, b ≠ b' → Disjoint (wideSet b) (wideSet b') := by
  intro b b' hne; rw [Finset.disjoint_left]; intro y hy hy'; rw [mem_wideSet] at hy hy'; exact hne (Fin.ext (hy.symm.trans hy'))
/-- The blocks of rows cover the array. -/
theorem wideSet_cover : (Finset.univ : Finset (Fin 25)).biUnion wideSet = Finset.univ := by
  ext y; simp only [Finset.mem_biUnion, Finset.mem_univ, true_and, iff_true]
  have h : (y 0).val < 50000 := (y 0).isLt
  exact ⟨⟨(y 0).val / 2000, by omega⟩, by rw [mem_wideSet]⟩
/-- Two blocks of types share no element. -/
theorem colSet_disjoint : ∀ b b' : Fin 25, b ≠ b' → Disjoint (colSet b) (colSet b') := by
  intro b b' hne; rw [Finset.disjoint_left]; intro y hy hy'; rw [mem_colSet] at hy hy'; exact hne (Fin.ext (hy.symm.trans hy'))
/-- The blocks of types cover the column. -/
theorem colSet_cover : (Finset.univ : Finset (Fin 25)).biUnion colSet = Finset.univ := by
  ext y; simp only [Finset.mem_biUnion, Finset.mem_univ, true_and, iff_true]
  have h : (y 0).val < 50000 := (y 0).isLt
  exact ⟨⟨(y 0).val / 2000, by omega⟩, by rw [mem_colSet]⟩
/-- Two slots of a wide buffer share no element. -/
theorem slotSetW_disjoint : ∀ s s' : Fin 4, s ≠ s' → Disjoint (slotSetW s) (slotSetW s') := by
  intro s s' hne; rw [Finset.disjoint_left]; intro y hy hy'; rw [mem_slotSetW] at hy hy'; exact hne (Fin.ext (hy.symm.trans hy'))
/-- The slots of a wide buffer cover it. -/
theorem slotSetW_cover : (Finset.univ : Finset (Fin 4)).biUnion slotSetW = Finset.univ := by
  ext y; simp only [Finset.mem_biUnion, Finset.mem_univ, true_and, iff_true]
  exact ⟨⟨(y 0).val, (y 0).isLt⟩, by rw [mem_slotSetW]⟩
/-- Two slots of the type buffer share no element. -/
theorem slotSetC_disjoint : ∀ s s' : Fin 4, s ≠ s' → Disjoint (slotSetC s) (slotSetC s') := by
  intro s s' hne; rw [Finset.disjoint_left]; intro y hy hy'; rw [mem_slotSetC] at hy hy'; exact hne (Fin.ext (hy.symm.trans hy'))
/-- The slots of the type buffer cover it. -/
theorem slotSetC_cover : (Finset.univ : Finset (Fin 4)).biUnion slotSetC = Finset.univ := by
  ext y; simp only [Finset.mem_biUnion, Finset.mem_univ, true_and, iff_true]
  exact ⟨⟨(y 0).val, (y 0).isLt⟩, by rw [mem_slotSetC]⟩
end

/-! ## The arrays -/

section
variable (c : Dev nD)

/-- The rows are their blocks. -/
theorem x_eq (XA : Buf (Elt F) ((c : Thread nD τ).loc main_arg0)) :
    (((c : Thread nD τ).loc main_arg0) ↦{fullShare} XA : sProp 𝕄) = bigSep Finset.univ (xHome c XA) := by
  rw [Ring.pointsTo_blocks (ℓ := (c : Thread nD τ).loc main_arg0) wideSet wideSet_disjoint wideSet_cover]
  exact bigSep_congr fun b _ => by rw [← xBlk_set]; rfl
/-- The types are their blocks. -/
theorem t_eq (TA : Buf (Elt F) ((c : Thread nD τ).loc main_v0)) :
    (((c : Thread nD τ).loc main_v0) ↦{fullShare} TA : sProp 𝕄) = bigSep Finset.univ (tHome c TA) := by
  rw [Ring.pointsTo_blocks (ℓ := (c : Thread nD τ).loc main_v0) colSet colSet_disjoint colSet_cover]
  exact bigSep_congr fun b _ => by rw [← tBlk_set]; rfl
/-- The result is its blocks. -/
theorem o_eq (OA : Buf (Elt F) ((c : Thread nD τ).loc main_v5)) :
    (((c : Thread nD τ).loc main_v5) ↦{fullShare} OA : sProp 𝕄) = bigSep Finset.univ (fun b => oHome c b OA) := by
  rw [Ring.pointsTo_blocks (ℓ := (c : Thread nD τ).loc main_v5) wideSet wideSet_disjoint wideSet_cover]
  exact bigSep_congr fun b _ => by rw [← oBlk_set]; rfl

/-- The result array from its blocks. -/
def wholeOf (val : Fin 25 → S2000x256.Idx → Elt F .f32) : S50000x256.Idx → Elt F .f32 := fun y =>
  val ⟨(y 0).val / 2000, by have h : (y 0).val < 50000 := (y 0).isLt; omega⟩ (ix2 ⟨(y 0).val % 2000, by omega⟩ (y 1))

/-- The element of block `b` at row `r`, column `l` is the array's at row `2000 b + r`. -/
theorem oBlk_emb (b : Fin 25) (j : S2000x256.Idx) :
    (oBlk b).view.emb j = ix2 (n0 := 50000) (n1 := 256) ⟨2000 * b.val + (j 0).val, by have := b.isLt; have h : (j 0).val < 2000 := (j 0).isLt; omega⟩ (j 1) := by
  funext a; fin_cases a
  · exact Fin.ext (show 2000 * b.val + 1 * (j 0).val = 2000 * b.val + (j 0).val by omega)
  · exact Fin.ext (show 0 + 1 * (j 1).val = (j 1).val by omega)

/-- and each block of it is as it was. -/
theorem read_whole (val : Fin 25 → S2000x256.Idx → Elt F .f32) (b : Fin 25) : (oBlk b).view.read (Elt F) (wholeOf val) = val b := by
  funext j
  have hj : (j 0).val < 2000 := (j 0).isLt
  show wholeOf val ((oBlk b).view.emb j) = val b j
  rw [oBlk_emb]
  unfold wholeOf
  have e1 : (⟨(2000 * b.val + (j 0).val) / 2000, by have := b.isLt; omega⟩ : Fin 25) = b := Fin.ext (by show (2000 * b.val + (j 0).val) / 2000 = b.val; omega)
  have e2 : ix2 (n0 := 2000) (n1 := 256) ⟨(2000 * b.val + (j 0).val) % 2000, by omega⟩ (j 1) = j := by
    funext a; fin_cases a
    · exact Fin.ext (by show (2000 * b.val + (j 0).val) % 2000 = (j 0).val; omega)
    · rfl
  exact congrArg₂ val e1 e2

/-- A computed block is its block of the whole result. -/
theorem done_home (val : Fin 25 → S2000x256.Idx → Elt F .f32) (b : Fin 25) : oDone c b (val b) ⊢ (oHome c b (wholeOf val) : sProp 𝕄) := by
  iintro ⟨%f, %hf, H⟩
  have e : oHome c b f = (oHome c b (wholeOf val) : sProp 𝕄) := pointsTo_congr fun i hi => by
    obtain ⟨j, -, rfl⟩ := Finset.mem_map.mp hi
    exact congrFun (hf.trans (read_whole val b).symm) j
  iapply (entails_of_eq e); iexact H
/-- The computed blocks are the whole result. -/
theorem done_whole (val : Fin 25 → S2000x256.Idx → Elt F .f32) :
    bigSep Finset.univ (fun b => oDone c b (val b)) ⊢ (((c : Thread nD τ).loc main_v5) ↦{fullShare} (wholeOf val : Buf (Elt F) ((c : Thread nD τ).loc main_v5)) : sProp 𝕄) := by
  rw [o_eq]; exact bigSep_mono fun b _ => done_home c val b

/-! ## The scratch buffers -/

/-- A row slot in hand is its part of the row buffer. -/
theorem xSlot_eq (s : Fin 4) (f) : xSlotP c s f = (((c : Thread nD τ).loc cc0_scratch0) ↦[slotSetW s]{fullShare} f : sProp 𝕄) :=
  congrArg (fun S => (_ ↦[S]{fullShare} f : sProp 𝕄)) (xSlot_set s)
/-- A type slot in hand is its part of the type buffer. -/
theorem tSlot_eq (s : Fin 4) (f) : tSlotP c s f = (((c : Thread nD τ).loc cc0_scratch1) ↦[slotSetC s]{fullShare} f : sProp 𝕄) :=
  congrArg (fun S => (_ ↦[S]{fullShare} f : sProp 𝕄)) (tSlot_set s)
/-- A result slot in hand is its part of the result buffer. -/
theorem oSlot_eq (s : Fin 4) (f) : oSlotP c s f = (((c : Thread nD τ).loc cc0_scratch2) ↦[slotSetW s]{fullShare} f : sProp 𝕄) :=
  congrArg (fun S => (_ ↦[S]{fullShare} f : sProp 𝕄)) (oSlot_set s)

/-- A buffer at some contents is its four slots, each at some contents; -/
theorem slots_split {ℓ : Loc nD τ sig} (S : Fin 4 → Finset (Idx ℓ)) (hd : ∀ s s' : Fin 4, s ≠ s' → Disjoint (S s) (S s')) (hc : (Finset.univ : Finset (Fin 4)).biUnion S = Finset.univ)
    (P : Fin 4 → Buf (Elt F) ℓ → sProp 𝕄) (hP : ∀ s f, P s f = (ℓ ↦[S s]{fullShare} f : sProp 𝕄)) :
    iprop(∃ f : Buf (Elt F) ℓ, ℓ ↦{fullShare} f) ⊢ (bigSep Finset.univ (fun s => iprop(∃ f, P s f)) : sProp 𝕄) := by
  iintro ⟨%f, H⟩
  ihave H' := (entails_of_eq (Ring.pointsTo_blocks (Ix := Unit) (Name := ℕ) (U := UU nD τ) (Lvl := ℕ) (q := fullShare) (ℓ := ℓ) S hd hc f)) $$ H
  have hm : bigSep Finset.univ (fun s => (ℓ ↦[S s]{fullShare} f : sProp 𝕄)) ⊢ (bigSep Finset.univ (fun s => iprop(∃ f, P s f)) : sProp 𝕄) :=
    bigSep_mono fun s _ => by
      show (ℓ ↦[S s]{fullShare} f : sProp 𝕄) ⊢ iprop(∃ f, P s f)
      iintro H; iexists f; iapply (entails_of_eq (hP s f).symm); iexact H
  iapply hm; iexact H'
/-- and back. -/
theorem slots_join {ℓ : Loc nD τ sig} (S : Fin 4 → Finset (Idx ℓ)) (hd : ∀ s s' : Fin 4, s ≠ s' → Disjoint (S s) (S s')) (hc : (Finset.univ : Finset (Fin 4)).biUnion S = Finset.univ)
    (P : Fin 4 → Buf (Elt F) ℓ → sProp 𝕄) (hP : ∀ s f, P s f = (ℓ ↦[S s]{fullShare} f : sProp 𝕄)) :
    bigSep Finset.univ (fun s => iprop(∃ f, P s f)) ⊢ (iprop(∃ f : Buf (Elt F) ℓ, ℓ ↦{fullShare} f) : sProp 𝕄) := by
  have hm : (bigSep Finset.univ (fun s => iprop(∃ f, P s f)) : sProp 𝕄) ⊢ bigSep Finset.univ (fun s => (iprop(∃ f, ℓ ↦[S s]{fullShare} f) : sProp 𝕄)) :=
    bigSep_mono fun s _ => by
      show (iprop(∃ f, P s f) : sProp 𝕄) ⊢ iprop(∃ f, ℓ ↦[S s]{fullShare} f)
      iintro ⟨%f, H⟩; iexists f; iapply (entails_of_eq (hP s f)); iexact H
  exact hm.trans (Ring.pointsTo_blocks_join_exists (ℓ := ℓ) S hd hc (fun _ => Classical.arbitrary _))

/-- The three scratch buffers as the launch gives them, and their slots' semaphores, are the slots in hand; -/
theorem free_of (c : Dev nD) :
    iprop((bigSep Finset.univ (xCell c) ∗ bigSep Finset.univ (tCell c) ∗ bigSep Finset.univ (oCell c))
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ⊢ (iprop(bigSep Finset.univ (fun s => xFree c s) ∗ bigSep Finset.univ (fun s => tFree c s) ∗ bigSep Finset.univ (fun s => oFree c s)) : sProp 𝕄) := by
  unfold xFree tFree oFree
  rw [bigSep_sep', bigSep_sep', bigSep_sep']
  iintro ⟨⟨Cx, Ct, Co⟩, Bx, Bt, Bo⟩
  ihave Sx := (slots_split (ℓ := (c : Thread nD τ).loc cc0_scratch0) slotSetW slotSetW_disjoint slotSetW_cover (fun s f => xSlotP c s f) (xSlot_eq c)) $$ Bx
  ihave St := (slots_split (ℓ := (c : Thread nD τ).loc cc0_scratch1) slotSetC slotSetC_disjoint slotSetC_cover (fun s f => tSlotP c s f) (tSlot_eq c)) $$ Bt
  ihave So := (slots_split (ℓ := (c : Thread nD τ).loc cc0_scratch2) slotSetW slotSetW_disjoint slotSetW_cover (fun s f => oSlotP c s f) (oSlot_eq c)) $$ Bo
  isplitl [Sx Cx]
  · isplitl [Sx]; · iexact Sx
    iexact Cx
  isplitl [St Ct]
  · isplitl [St]; · iexact St
    iexact Ct
  isplitl [So]; · iexact So
  iexact Co
/-- and back. -/
theorem of_free (c : Dev nD) :
    iprop(bigSep Finset.univ (fun s => xFree c s) ∗ bigSep Finset.univ (fun s => tFree c s) ∗ bigSep Finset.univ (fun s => oFree c s))
    ⊢ (iprop((bigSep Finset.univ (xCell c) ∗ bigSep Finset.univ (tCell c) ∗ bigSep Finset.univ (oCell c))
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) : sProp 𝕄) := by
  unfold xFree tFree oFree
  rw [bigSep_sep', bigSep_sep', bigSep_sep']
  iintro ⟨⟨Sx, Cx⟩, ⟨St, Ct⟩, ⟨So, Co⟩⟩
  isplitl [Cx Ct Co]
  · isplitl [Cx]; · iexact Cx
    isplitl [Ct]; · iexact Ct
    iexact Co
  isplitl [Sx]
  · iapply (slots_join (ℓ := (c : Thread nD τ).loc cc0_scratch0) slotSetW slotSetW_disjoint slotSetW_cover (fun s f => xSlotP c s f) (xSlot_eq c)); iexact Sx
  isplitl [St]
  · iapply (slots_join (ℓ := (c : Thread nD τ).loc cc0_scratch1) slotSetC slotSetC_disjoint slotSetC_cover (fun s f => tSlotP c s f) (tSlot_eq c)); iexact St
  · iapply (slots_join (ℓ := (c : Thread nD τ).loc cc0_scratch2) slotSetW slotSetW_disjoint slotSetW_cover (fun s f => oSlotP c s f) (oSlot_eq c)); iexact So

/-! ## The kernel's own semaphores -/

/-- The twelve semaphores: the row slots', the type slots', the result slots'. -/
abbrev osem : Fin 12 → SemLoc sig := fun k =>
  if h : k.val < 4 then .dma (xSem ⟨k.val, h⟩).sem
  else if h' : k.val < 8 then .dma (tSem ⟨k.val - 4, by omega⟩).sem
  else .dma (oSem ⟨k.val - 8, by have := k.isLt; omega⟩).sem
/-- The twelve are distinct and apart from the staging's own. -/
theorem ownSemFacts : Pipeline.OwnSemFacts spec0 osem := by decide

/-- They are the kernel's twelve cells. -/
theorem ownSems0_eq (c : Dev nD) : (Pipeline.ownSems0 (Ix := Unit) (Name := ℕ) (U := UU nD τ) (Lvl := ℕ) (Val := Elt F) (τ := τ) osem c : sProp 𝕄)
    = iprop(bigSep Finset.univ (xCell c) ∗ bigSep Finset.univ (tCell c) ∗ bigSep Finset.univ (oCell c)) := by
  unfold Pipeline.ownSems0
  rw [bigSep_univ_eq_bigSepL [(0 : Fin 12), 1, 2, 3, 4, 5, 6, 7, 8, 9, 10, 11] (by decide) (by decide),
    bigSep_univ_eq_bigSepL [(0 : Fin 4), 1, 2, 3] (by decide) (by decide), bigSep_univ_eq_bigSepL [(0 : Fin 4), 1, 2, 3] (by decide) (by decide), bigSep_univ_eq_bigSepL [(0 : Fin 4), 1, 2, 3] (by decide) (by decide)]
  simp only [bigSepL]
  have A : ∀ P Q R : sProp 𝕄, BI.sep (BI.sep P Q) R = BI.sep P (BI.sep Q R) := fun P Q R => equiv_iff.mp ⟨BI.sep_assoc, BI.sep_assoc'⟩
  show _ = BI.sep (BI.sep (xCell c 0) (BI.sep (xCell c 1) (BI.sep (xCell c 2) (xCell c 3))))
    (BI.sep (BI.sep (tCell c 0) (BI.sep (tCell c 1) (BI.sep (tCell c 2) (tCell c 3)))) (BI.sep (oCell c 0) (BI.sep (oCell c 1) (BI.sep (oCell c 2) (oCell c 3)))))
  simp only [A]
  rfl

end
end Cert.Proof.Rows
end
-- ==== Proof.Launch.lean ====
/-
  The launch: from any memory, the kernel terminates with the result array holding its twenty-five computed blocks, its
  arguments as they were, and every semaphore at zero.
-/
module

public import proofs.«01_k».proof.Proof.Invariant
public import proofs.«01_k».proof.Proof.Split

@[expose] public section

set_option maxRecDepth 16384

noncomputable section

namespace Cert.Proof.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## What the body finds in its windows -/

/-- The weights as the kernel's windows give them. -/
abbrev wC (c : Dev nD) : S256x1024.Idx → Elt F .bf16 := V m c main_v4
/-- Bias row `k`. -/
abbrev bC (c : Dev nD) (k : Fin 4) (h : ∀ a, (![k.val, 0] : Fin 2 → Nat) a + S1x256.size a ≤ S4x256.size a) : S1x256.Idx → Elt F .f32 :=
  fun j => V m c main_arg3 ((Rect.unit (s := S4x256) ![k.val, 0] S1x256.size h).idx j)
/-- Result block `b`. -/
abbrev valC (c : Dev nD) (b : Fin 25) : S2000x256.Idx → Elt F .f32 :=
  blkFn ((xBlk b).view.read (Elt F) (V m c main_arg0)) ((tBlk b).view.read (Elt F) (V m c main_v0)) (wC m c)
    (bC m c 0 inb_S4x256_S1x256_0_0) (bC m c 1 inb_S4x256_S1x256_1_0) (bC m c 2 inb_S4x256_S1x256_2_0) (bC m c 3 inb_S4x256_S1x256_3_0)

/-- The weight window's block is all of the weights, -/
theorem iblk0 (c : Dev nD) (t : Fin cfg0.N) : iblk m c 0 t = wC m c := by
  funext j
  unfold iblk
  rw [View.read_apply]
  refine congrArg (V m c main_v4) ?_
  funext a; fin_cases a
  · exact Fin.ext (show 0 * 256 + 1 * (j 0).val = (j 0).val by omega)
  · exact Fin.ext (show 0 * 1024 + 1 * (j 1).val = (j 1).val by omega)
/-- and the bias window's block all of the bias. -/
theorem iblk1 (c : Dev nD) (t : Fin cfg0.N) : iblk m c 1 t = (V m c main_arg3 : S4x256.Idx → Elt F .f32) := by
  funext j
  unfold iblk
  rw [View.read_apply]
  refine congrArg (V m c main_arg3) ?_
  funext a; fin_cases a
  · exact Fin.ext (show 0 * 4 + 1 * (j 0).val = (j 0).val by omega)
  · exact Fin.ext (show 0 * 256 + 1 * (j 1).val = (j 1).val by omega)

/-- The staging buffer of the weights is a whole buffer. -/
abbrev hst0_0 (t : Fin cfg0.N) : (st0_0 t).IsWhole := hstage0_0 ((cfg0.slots t 0).cast nbuf0_0)
/-- The staging buffer of the biases is a whole buffer. -/
abbrev hst0_1 (t : Fin cfg0.N) : (st0_1 t).IsWhole := hstage0_1 ((cfg0.slots t 1).cast nbuf0_1)

/-- So from the staged windows a point computes its block. -/
theorem blkVal_eq (c : Dev nD) (t : Fin cfg0.N) (b : Fin 25) :
    blkVal c (V m c main_arg0) (V m c main_v0) (st0_0 t) (st0_1 t) ((st0_0 t).view.rep (iblk m c 0 t)) ((st0_1 t).view.rep (iblk m c 1 t)) b = valC m c b := by
  have hw : wVal c (st0_0 t) ((st0_0 t).view.rep (iblk m c 0 t)) = wC m c := by
    funext j
    unfold wVal
    rw [View.readAt_apply, View.read_rep, iblk0]
    refine congrArg (V m c main_v4) ?_
    funext a; fin_cases a
    · exact Fin.ext (show 0 + 1 * (j 0).val = (j 0).val by omega)
    · exact Fin.ext (show 0 + 1 * (j 1).val = (j 1).val by omega)
  have hb : ∀ (k : Fin 4) (h), bVal c (st0_1 t) ((st0_1 t).view.rep (iblk m c 1 t)) k h = bC m c k h := by
    intro k h
    funext j
    unfold bVal
    rw [View.readAt_apply, View.read_rep, iblk1]
  unfold blkVal
  rw [hw, hb, hb, hb, hb]

/-! ## The pipeline's proof data -/

/-- What each staged window holds after a point, and the invariant between two points. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ p := Inv c (V m c main_arg0) (V m c main_v0) (valC m c) p.val
  q _ := fullShare
  owed _ := 0

/-- After a point the first window still holds the weights. -/
theorem after_w0 (c : Dev nD) (t : Fin cfg0.N) : (dats m 0 c).after 0 t = iblk m c 0 t := by dsimp only [dats]
/-- After a point the second window still holds the biases. -/
theorem after_w1 (c : Dev nD) (t : Fin cfg0.N) : (dats m 0 c).after 1 t = iblk m c 1 t := by dsimp only [dats]
/-- Before a point the first window holds the weights. -/
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
/-- Before a point the second window holds the biases. -/
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)

/-! ## The body obligation -/

/-- The grid's body is the kernel's body on the staged windows. -/
theorem defs_tc : (defs₀ (F := F)) .tc cfg0.body
    = fun a => bodyG (win0_0.stage (a.2 0)) (hstage0_0 ((a.2 0).cast nbuf0_0)) (win0_1.stage (a.2 1)) (hstage0_1 ((a.2 1).cast nbuf0_1)) (grid0.coords a.1) := rfl
/-- At point `t` it is the kernel's body at that point's coordinates. -/
theorem prog_eq (t : Fin cfg0.N) : (defs₀ (F := F)) .tc cfg0.body (cfg0.bodyArgs t (cfg0.slots t)) = bodyG (st0_0 t) (hst0_0 t) (st0_1 t) (hst0_1 t) (grid0.coords t) :=
  (congrFun defs_tc _).trans rfl

/-- A point's coordinate is its number. -/
theorem coord_val : ∀ t : Fin grid0.N, (grid0.coords t 0).val = t.val := by decide

set_option backward.isDefEq.respectTransparency.types false in
/-- Every point, from the invariant before it, runs to its end and leaves the invariant after it. -/
theorem body_obligation (c : Dev nD) : BodyObligation (dats (F := F) m 0 c) (defs₀ (F := F)) 𝒱₀ () Set.univ := fun t => by
  rw [bigSep_W0, bigSep_W0]
  dsimp only
  simp only [before_w0, before_w1, after_w0, after_w1]
  rw [show (dats m 0 c).Φ t.castSucc = Inv c (V m c main_arg0) (V m c main_v0) (valC m c) (grid0.coords t 0).val from by rw [coord_val]; rfl,
    show (dats m 0 c).Φ t.succ = Inv c (V m c main_arg0) (V m c main_v0) (valC m c) ((grid0.coords t 0).val + 1) from by rw [coord_val]; rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩⟩
  ihave H0' := (pointsTo_rep_entails (c : Thread nD τ) (st0_0 t) g0 fullShare) $$ H0
  ihave H1' := (pointsTo_rep_entails (c : Thread nD τ) (st0_1 t) g1 fullShare) $$ H1
  rw [hg0, hg1]
  sl_rw [prog_eq t]
  iapply (point c (V m c main_arg0) (V m c main_v0) (valC m c) (st0_0 t) (hst0_0 t) (st0_1 t) (hst0_1 t) (grid0.coords t) _ _ (blkVal_eq m c t) W)
  unfold Given
  isplitl [HΦ]; · iexact HΦ
  isplitl [H0']; · iexact H0'
  isplitl [H1']; · iexact H1'
  isplitl [HW]; · iexact HW
  iintro ⟨HΦ, H0, H1, ⟨%W', HW⟩⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  iexists _; isplitr; · ipureintro; exact View.read_rep _ _
  iexact H1

/-! ## The run -/

/-- The launch's ghost state: the pipeline's cells and tokens, and nothing yet for the kernel's own transfers. -/
def u₀ : UU nD τ := (initOf (Pipeline.cells cfgs Cert.KernelIdeal.Gen.cellOf_inj) (Pipeline.launchToks cfgs Cert.KernelIdeal.Gen.cellOf_inj), 1)
/-- What the region takes in beside the scratch buffers: the arrays the body moves, and its semaphores. -/
def intoΦ (c : Dev nD) : sProp 𝕄 :=
  iprop((((c : Thread nD τ).loc main_arg0) ↦{fullShare} V m c main_arg0) ∗ (((c : Thread nD τ).loc main_v0) ↦{fullShare} V m c main_v0)
    ∗ (((c : Thread nD τ).loc main_v5) ↦{fullShare} V m c main_v5) ∗ Pipeline.ownSems0 osem c)
/-- What it hands back: the rows, and the result computed. -/
def outOfΦ (c : Dev nD) : sProp 𝕄 :=
  iprop((((c : Thread nD τ).loc main_arg0) ↦{fullShare} V m c main_arg0)
    ∗ ((c : Thread nD τ).loc main_v5) ↦{fullShare} (wholeOf (valC m c) : Buf (Elt F) ((c : Thread nD τ).loc main_v5)))
/-- What stays out of the region: the types and the weights as launched. -/
def asideΦ (c : Dev nD) : sProp 𝕄 :=
  iprop((((c : Thread nD τ).loc main_arg1) ↦{fullShare} V m c main_arg1) ∗ (((c : Thread nD τ).loc main_arg2) ↦{fullShare} V m c main_arg2))
/-- What a final state has on core `c`, apart from the windows' arrays. -/
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_v5) = wholeOf (valC m c)
/-- What the array behind window `w` holds at the end. -/
def finalA (c : Dev nD) (w : Fin cfg0.W) : Buf (Elt F) ((cfg0.win w).arr.view.loc (c : Thread nD τ)) := (dats m 0 c).arrAt w cfg0.N
/-- What a final state has on every core: the windows' arrays, and the rest as `QY` says. -/
def QC : PUnit × MemSt nD τ sig (Elt F) → Prop := fun r =>
  ∀ c : Dev nD, (∀ w : Fin cfg0.W, r.2.mem ((cfg0.win w).arr.view.loc (c : Thread nD τ)) = finalA m c w) ∧ QY m c r.2

/-- Before the first point nothing of the result is computed. -/
theorem oAt_zero (c : Dev nD) (val : Fin 25 → S2000x256.Idx → Elt F .f32) (OA : Buf (Elt F) ((c : Thread nD τ).loc main_v5)) :
    (((c : Thread nD τ).loc main_v5) ↦{fullShare} OA : sProp 𝕄) ⊢ bigSep Finset.univ (oAt c val 0) := by
  rw [o_eq]
  refine bigSep_mono fun b _ => ?_
  show (oHome c b OA : sProp 𝕄) ⊢ oAt c val 0 b
  unfold oAt; rw [if_neg (by omega)]
  iintro H; iexists _; iexact H

set_option backward.isDefEq.respectTransparency.types false in
/-- From any memory with zero counters, for any float values: every weakly fair execution of @main on the TensorCores
    terminates, and every final state has the computed result, the arguments unchanged, every semaphore at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => by
      rw [unscopedRest0_eq]
      unfold intoΦ asideΦ
      iintro ⟨⟨H0, H1, H2, Hv0, -, -, -, Hv5⟩, HS, -, -, -⟩; imodintro
      isplitl [H0 Hv0 Hv5 HS]
      · isplitl [H0]; · iexact H0
        isplitl [Hv0]; · iexact Hv0
        isplitl [Hv5]; · iexact Hv5
        iexact HS
      isplitl [H1]; · iexact H1
      iexact H2)
    (hin := fun c => by
      rw [scopedRest0_eq, show (dats m 0 c).Φ 0 = Zero c (V m c main_arg0) (V m c main_v0) (valC m c) from Inv_zero _ _ _ _]
      unfold intoΦ Zero; rw [ownSems0_eq, x_eq, t_eq]
      iintro ⟨⟨H0, Hv0, Hv5, HS⟩, Hb⟩
      ihave Hf := (free_of c) $$ [HS Hb]
      · isplitl [HS]; · iexact HS
        iexact Hb
      icases Hf with ⟨Hx, Ht, Ho⟩
      isplitl [Hx]; · iexact Hx
      isplitl [Ht]; · iexact Ht
      isplitl [Ho]; · iexact Ho
      isplitl [H0]; · iexact H0
      isplitl [Hv0]; · iexact Hv0
      iapply (oAt_zero c (valC m c) (V m c main_v5)); iexact Hv5)
    (hout := fun c => by
      rw [scopedRest0_eq, show (dats m 0 c).Φ (Fin.last cfg0.N) = Done c (V m c main_arg0) (V m c main_v0) (valC m c) from Inv_done c (V m c main_arg0) (V m c main_v0) (valC m c) (p := (Fin.last cfg0.N).val) (by decide), ownSems0_eq]
      unfold outOfΦ Done; rw [x_eq]
      iintro ⟨Hx, Ht, Ho, H0, -, Hv5⟩
      ihave Hf := (of_free c) $$ [Hx Ht Ho]
      · isplitl [Hx]; · iexact Hx
        isplitl [Ht]; · iexact Ht
        iexact Ho
      icases Hf with ⟨HS, Hb⟩
      isplitl [H0 Hv5]
      · isplitl [H0]; · iexact H0
        iapply (done_whole c (valC m c)); iexact Hv5
      isplitl [HS]; · iexact HS
      iexact Hb)
    (QY := QY m)
    (hY := fun c s' => by
      unfold outOfΦ asideΦ
      iintro ⟨⟨H0, Hv5⟩, ⟨H1, H2⟩, HSI⟩
      icombine HSI H0 gives %h0
      icombine HSI H1 gives %h1
      icombine HSI H2 gives %h2
      icombine HSI Hv5 gives %h5
      imodintro
      isplitr
      · ipureintro
        exact ⟨Buf.eq_of_forall_mem_univ h0, Buf.eq_of_forall_mem_univ h1, Buf.eq_of_forall_mem_univ h2, Buf.eq_of_forall_mem_univ h5⟩
      iexact HSI)
    (hQ := fun _ hh hz => ⟨hh, hz⟩)

/-- A window's array is left as the region found it. -/
theorem finalA_in (c : Dev nD) (w : Fin cfg0.W) (hw : (cfg0.win w).isOut = false) :
    finalA m c w = V m c (Pipeline.arrRef spec0 w) :=
  (dats (F := F) m 0 c).arrAt_in w hw _

/-- What a run ends in: on every core the result array computed and the arguments as launched, every semaphore at zero. -/
theorem run_post : θ_run defs (onTc (τ := τ) (main (F := F))) ⟨m, fun _ => 0, ρ⟩ (fun r =>
    (∀ c : Dev nD, r.2.mem ((c.tc : Thread nD τ).loc main_v5) = wholeOf (valC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ hh => ⟨fun c => by
    obtain ⟨hw, h0, h1, h2, h5⟩ := hh.1 c
    exact ⟨h5, h0.trans (V_main_arg0 m c), h1.trans (V_main_arg1 m c), h2.trans (V_main_arg2 m c),
      ((hw 1).trans (finalA_in m c 1 rfl)).trans (V_main_arg3 m c)⟩, hh.2⟩) (run_main m ρ)

end Cert.Proof.Rows
end
-- ==== Proof.Frames.lean ====
/-
  The kernel's frames: the run of `Launch`, at the extended reals and, the two programs being one text, at the words.
-/
module

public import proofs.«01_k».proof.Proof.Launch
public import proofs.«01_k».proof.Proof.Gen.Kernel
public import proofs.«01_k».proof.Proof.Gen.Pre_types_in_range

@[expose] public section

noncomputable section

namespace Cert.Proof.Rows

open Idealize.ShloMosaic
open Idealize.ShloMosaic.TcCoe
open Idealize.SL.Sem

/-- The ideal program's frame. -/
theorem frame_ideal : Cert.quiescent_KernelIdeal := fun m ρ _ =>
  (θ_run _ _ _).mono (fun _ h => ⟨fun c => (h.1 c).2, h.2⟩) (run_post (F := Ideal) m ρ)
/-- and under the value claim's precondition. -/
theorem frame_ideal_pre : Cert.quiescent_KernelIdeal_pre_types_in_range := fun m ρ _ =>
  (θ_run _ _ _).mono (fun _ h => ⟨fun c => (h.1 c).2, h.2⟩) (run_post (F := Ideal) m ρ)

set_option maxRecDepth 65536 in
/-- The two programs have one entry point, -/
theorem main_same : @Cert.Kernel.main Bits _ _ = @Cert.KernelIdeal.main Bits _ _ := rfl

set_option maxRecDepth 65536 in
/-- one table of bodies, -/
theorem bodies_same : @Cert.Kernel.defs₀ Bits _ _ = @Cert.KernelIdeal.defs₀ Bits _ _ := by
  unfold Cert.Kernel.defs₀ Cert.KernelIdeal.defs₀
  congr 1
  funext l a
  match l, a with
  | 0, (t, s) => rfl

set_option maxRecDepth 65536 in
/-- and one table of calls. -/
theorem calls_same : @Cert.Kernel.defs Bits _ _ = @Cert.KernelIdeal.defs Bits _ _ := by
  unfold Cert.Kernel.defs Cert.KernelIdeal.defs
  rw [bodies_same]
  rfl

set_option maxRecDepth 65536 in
/-- The kernel's own frame. -/
theorem frame_words : Cert.quiescent_Kernel := fun m ρ _ => by
  have h := (θ_run (Cert.KernelIdeal.defs (F := Bits)) _ _).mono
    (fun _ h => And.intro (fun c => (h.1 c).2) h.2) (run_post (F := Bits) m ρ)
  rw [calls_same, main_same]
  exact h

end Cert.Proof.Rows
end
-- ==== Proof.Value.lean ====
/-
  What one block of the kernel's result holds, element by element, at the extended reals: the row's type picks one of the
  four products of the row with a weight matrix, plus that matrix's bias.
-/
module

public import proofs.«01_k».proof.Proof.Block
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Proof.Rows

open Cert.KernelIdeal Cert.KernelIdeal.Gen
open Idealize.ShloMosaic Idealize.ShloMosaic.ValueIdx
open scoped BigOperators

/-- The last of the four values whose type the word `t` is, from 1 on, and the value of type 0 for any other word. -/
def pick {α : Type} (t : BitVec 32) (v0 v1 v2 v3 : α) : α :=
  Scalar.select (IntOp.cmpi .eq t 3#32) v3 (Scalar.select (IntOp.cmpi .eq t 2#32) v2 (Scalar.select (IntOp.cmpi .eq t 1#32) v1 v0))

/-- A column of words or bits repeated over the 256 columns reads the column's row. -/
theorem col_apply {α : Type} (v : S2000x1.Idx → α) (h : S2000x1.Broadcasts S2000x256) (r : Fin 2000) (c : Fin 256) :
    broadcastTo S2000x256 v h (ix2 r c) = v (ix2 r 0) :=
  broadcastTo_apply v h _ _ fun a => match a with | ⟨0, _⟩ => rfl | ⟨1, _⟩ => rfl

/-- A slice of 256 of the 1024 product columns reads the product at the column moved by the offset. -/
theorem cut_apply (x : S2000x1024.Idx → EReal) (o : Nat) (h : S2000x1024.Slices ![0, o] S2000x256) (r : Fin 2000) (c : Fin 256)
    (d : Fin 1024) (hd : d.val = o + c.val) : extractStridedSlice S2000x256 ![0, o] x h (ix2 r c) = x (ix2 r d) :=
  extractStridedSlice_apply _ x h _ _ fun a => match a with | ⟨0, _⟩ => (Nat.zero_add _).symm | ⟨1, _⟩ => hd

/-- A bias row repeated over the rows reads the bias row's column. -/
theorem bias_apply (b : S1x256.Idx → EReal) (h1 : S1x256.ShapeCasts S256) (h2 : S256.ShapeCasts S1x256) (h3 : S1x256.Broadcasts S2000x256)
    (r : Fin 2000) (c : Fin 256) :
    broadcastTo S2000x256 (shapeCast S1x256 (shapeCast S256 b h1) h2) h3 (ix2 r c) = b (ix2 0 c) :=
  ((broadcastTo_1b_ab_apply _ h3 r c).trans (shapeCast_a_1a_apply _ h2 0 c)).trans (shapeCast_1a_a_apply b h1 c)

/-- The product of the row block with the weights, at row `r` and column `d`. -/
theorem product_apply (x : S2000x256.Idx → EReal) (w : S256x1024.Idx → EReal) (r : Fin 2000) (d : Fin 1024) :
    k0_pay2 (F := Ideal) (shapeCast S1x2000x256 x shapeCasts_S2000x256_S1x2000x256) w (ix2 r d) = ∑ k : Fin 256, x (ix2 r k) * w (ix2 k d) := by
  unfold k0_pay2
  rw [shapeCast_shapeCast, shapeCast_self]
  refine (Ideal.matmul_plain_apply (M := 2000) (K := 256) (N := 1024) (φ₁ := .bf16) (φ₂ := .bf16) none x w _ r d).trans ?_
  rw [constant_apply, Ideal.ofBits_zero_f32, zero_add]

/-- One of the four candidate rows: the product's slice plus the bias. -/
theorem candidate_apply (P : S2000x1024.Idx → EReal) (b : S1x256.Idx → EReal) (o : Nat) (h : S2000x1024.Slices ![0, o] S2000x256)
    (h1 : S1x256.ShapeCasts S256) (h2 : S256.ShapeCasts S1x256) (h3 : S1x256.Broadcasts S2000x256)
    (r : Fin 2000) (c : Fin 256) (d : Fin 1024) (hd : d.val = o + c.val) :
    addf (F := Ideal) (φ := .f32) (extractStridedSlice S2000x256 ![0, o] P h) (broadcastTo S2000x256 (shapeCast S1x256 (shapeCast S256 b h1) h2) h3) (ix2 r c)
      = P (ix2 r d) + b (ix2 0 c) :=
  congrArg₂ (· + ·) (cut_apply P o h r c d hd) (bias_apply b h1 h2 h3 r c)

/-- A test of the row's type, repeated over the columns, is the test of the word. -/
theorem test_apply (ty : S2000x1.Idx → BitVec 32) (k : BitVec 32) (h2 : S2000x1.Broadcasts S2000x256)
    (r : Fin 2000) (c : Fin 256) :
    broadcastTo S2000x256 (cmpi .eq ty (broadcast S2000x1 k)) h2 (ix2 r c) = IntOp.cmpi .eq (ty (ix2 r 0)) k := by
  rw [col_apply]
  rfl

/-- The block a point computes, at row `r` and column `c`. -/
theorem block_apply (x : S2000x256.Idx → EReal) (ty : S2000x1.Idx → BitVec 32) (w : S256x1024.Idx → EReal) (b0 b1 b2 b3 : S1x256.Idx → EReal)
    (r : Fin 2000) (c : Fin 256) :
    blkFn (F := Ideal) x ty w b0 b1 b2 b3 (ix2 r c)
      = pick (ty (ix2 r 0))
          (∑ k : Fin 256, x (ix2 r k) * w (ix2 k ⟨c.val, by omega⟩) + b0 (ix2 0 c))
          (∑ k : Fin 256, x (ix2 r k) * w (ix2 k ⟨256 + c.val, by omega⟩) + b1 (ix2 0 c))
          (∑ k : Fin 256, x (ix2 r k) * w (ix2 k ⟨512 + c.val, by omega⟩) + b2 (ix2 0 c))
          (∑ k : Fin 256, x (ix2 r k) * w (ix2 k ⟨768 + c.val, by omega⟩) + b3 (ix2 0 c)) := by
  unfold blkFn k0_pay5 k0_pay3 k0_pay1 k0_pay4
  dsimp only
  rw [shapeCast_shapeCast, shapeCast_self, shapeCast_shapeCast, shapeCast_self]
  simp only [select_apply, shapeCast_self]
  rw [test_apply, test_apply, test_apply, candidate_apply _ b0 0 _ _ _ _ r c ⟨c.val, by omega⟩ (Nat.zero_add _).symm,
    candidate_apply _ b1 256 _ _ _ _ r c ⟨256 + c.val, by omega⟩ rfl, candidate_apply _ b2 512 _ _ _ _ r c ⟨512 + c.val, by omega⟩ rfl,
    candidate_apply _ b3 768 _ _ _ _ r c ⟨768 + c.val, by omega⟩ rfl]
  rw [product_apply, product_apply, product_apply, product_apply]
  rfl

end Cert.Proof.Rows
end
-- ==== Proof.HostArrays.lean ====
/-
  The arrays the host prepares for the kernel, element by element: the types as a column, and the four weight matrices
  transposed and laid side by side.
-/
module

public import proofs.«01_k».proof.Proof.Gen.KernelIdeal.Frame
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.StableHlo.Run

@[expose] public section

noncomputable section

namespace Cert.Proof.Rows

open Cert.KernelIdeal Cert.KernelIdeal.Gen
open Idealize.ShloMosaic Idealize.ShloMosaic.ValueIdx Idealize.ShloMosaic.TcCoe Idealize.ShloMosaic.StableHlo

variable (m : (ℓ : Loc nD τ sig) → Buf (Elt Ideal) ℓ)

/-- The types' column is the types reshaped. -/
theorem column_eq (c : Dev nD) : (V m c main_v0 : S50000x1.Idx → BitVec 32)
    = shapeCast S50000x1 (m ((c.tc : Thread nD τ).loc main_arg1) : S50000.Idx → BitVec 32) shapeCasts_S50000_S50000x1 := by
  show StableHlo.after hostOps0 (fun b => m (c, b)) (Proc.devRef .tc main_v0) = _
  after_results_simp <;> rfl

/-- The prepared weights are the weights transposed twice, flattened and changed in format. -/
theorem weights_eq (c : Dev nD) : (V m c main_v4 : S256x1024.Idx → EReal)
    = truncf (F := Ideal) (φ := .f32) .bf16 (shapeCast S256x1024 (transpose S256x4x256 [1, 0, 2]
        (transpose S4x256x256 [0, 2, 1] (m ((c.tc : Thread nD τ).loc main_arg2) : S4x256x256.Idx → EReal) transposes_S4x256x256_S4x256x256_0_2_1)
        transposes_S4x256x256_S256x4x256_1_0_2) shapeCasts_S256x4x256_S256x1024) bitsLt_bf16_f32 := by
  show StableHlo.after hostOps0 (fun b => m (c, b)) (Proc.devRef .tc main_v4) = _
  after_results_simp <;> rfl

/-- The types' column at row `r`. -/
theorem column_apply (c : Dev nD) (r : Fin 50000) (u : Fin 1) :
    (V m c main_v0 : S50000x1.Idx → BitVec 32) (ix2 r u) = (m ((c.tc : Thread nD τ).loc main_arg1) : S50000.Idx → BitVec 32) (ix1 r) :=
  (congrFun (column_eq m c) _).trans (shapeCast_a_a1_apply _ _ r u)

/-- The prepared weights at row `d` and column `256 * k + h`: matrix `k` at row `h` and column `d`. -/
theorem weights_apply (c : Dev nD) (k : Fin 4) (h d : Fin 256) (l : Fin 1024) (hl : l.val = 256 * k.val + h.val) :
    (V m c main_v4 : S256x1024.Idx → EReal) (ix2 d l) = (m ((c.tc : Thread nD τ).loc main_arg2) : S4x256x256.Idx → EReal) (ix3 k h d) := by
  refine (congrFun (weights_eq m c) _).trans ?_
  rw [truncf_apply]
  refine (shapeCast_apply _ _ _ (ix3 d k h : S256x4x256.Idx) ?_).trans ?_
  · rw [Shape.rowMajor_val_three, Shape.rowMajor_val_two]
    show (d.val * 4 + k.val) * 256 + h.val = d.val * 1024 + l.val
    omega
  refine (transpose_apply _ _ _ _ (ix3 k d h : S4x256x256.Idx) fun a => match a with | ⟨0, _⟩ => rfl | ⟨1, _⟩ => rfl | ⟨2, _⟩ => rfl).trans ?_
  exact transpose_ix3_021_apply _ _ k d h

end Cert.Proof.Rows
end
-- ==== Proof.Reference.lean ====
/-
  What the reference computes, element by element, at the extended reals.
-/
module

public import proofs.«01_k».proof.Proof.Gen.ReferenceIdeal.Run
public import Idealize.ShloMosaic.Lib.ValueIdx
public import Idealize.ShloMosaic.Lib.ValueLayout
public import Idealize.ShloMosaic.Lib.IdealHost
public import Idealize.ShloMosaic.Lib.StackMember
public import Idealize.ShloMosaic.Lib.Pipeline.Value

@[expose] public section

noncomputable section

namespace Cert.Proof.Ref

open Cert.ReferenceIdeal Cert.ReferenceIdeal.Gen
open Idealize.ShloMosaic Idealize.ShloMosaic.ValueIdx
open scoped BigOperators

/-- Row `r` of the features with matrix `k`, at column `h`, plus the bias. -/
def entry (X : S50000x256.Idx → EReal) (W : S4x256x256.Idx → EReal) (B : S4x256.Idx → EReal) (k : Fin 4) (r : Fin 50000) (h : Fin 256) : EReal :=
  ∑ d : Fin 256, X (ix2 r d) * W (ix3 k h d) + B (ix2 k h)

/-- The reference's test of a row's type, repeated over the columns. -/
theorem test_apply (T : S50000.Idx → BitVec 32) (k : BitVec 32) (h1 : S50000x1.BroadcastsInDim S50000x256 ![0, 1]) (h2 : S50000.BroadcastsInDim S50000x1 ![0])
    (h3 : S_.BroadcastsInDim S50000 ![]) (r : Fin 50000) (h : Fin 256) :
    broadcastInDim S50000x256 ![0, 1] h1 (broadcastInDim S50000x1 ![0] h2 (cmpi .eq T (broadcastInDim S50000 ![] h3 (constantI S_ 32 k)))) (ix2 r h)
      = IntOp.cmpi .eq (T (ix1 r)) k := by
  refine (broadcastInDim_apply _ h1 _ _ (ix2 r 0 : S50000x1.Idx) fun a => match a with | ⟨0, _⟩ => rfl | ⟨1, _⟩ => rfl).trans ?_
  refine (broadcastInDim_apply _ h2 _ _ (ix1 r : S50000.Idx) fun a => match a with | ⟨0, _⟩ => rfl).trans ?_
  rfl

/-- Matrix `k` taken out of the four and transposed. -/
theorem matrix_apply (W : S4x256x256.Idx → EReal) (k : Fin 4) (h1 : S4x256x256.Slices ![k.val, 0, 0] S1x256x256) (h2 : S1x256x256.ShapeCasts S256x256)
    (h3 : S256x256.Transposes [1, 0] S256x256) (d h : Fin 256) :
    transpose S256x256 [1, 0] (shapeCast S256x256 (extractStridedSlice S1x256x256 ![k.val, 0, 0] W h1) h2) h3 (ix2 d h) = W (ix3 k h d) := by
  refine (transpose_ix2_apply _ h3 d h).trans ?_
  refine (shapeCast_1ab_ab_apply _ h2 h d).trans ?_
  exact extractStridedSlice_apply _ W h1 _ _ fun a => match a with
    | ⟨0, _⟩ => rfl | ⟨1, _⟩ => (Nat.zero_add _).symm | ⟨2, _⟩ => (Nat.zero_add _).symm

/-- Bias row `k`, repeated over the rows. -/
theorem bias_apply (B : S4x256.Idx → EReal) (k : Fin 4) (h1 : S4x256.Slices ![k.val, 0] S1x256) (h2 : S1x256.ShapeCasts S256)
    (h3 : S256.BroadcastsInDim S1x256 ![1]) (h4 : S1x256.BroadcastsInDim S50000x256 ![0, 1]) (r : Fin 50000) (h : Fin 256) :
    broadcastInDim S50000x256 ![0, 1] h4 (broadcastInDim S1x256 ![1] h3 (shapeCast S256 (extractStridedSlice S1x256 ![k.val, 0] B h1) h2)) (ix2 r h)
      = B (ix2 k h) := by
  refine (broadcastInDim_apply _ h4 _ _ (ix2 0 h : S1x256.Idx) fun a => match a with | ⟨0, _⟩ => rfl | ⟨1, _⟩ => rfl).trans ?_
  refine (broadcastInDim_apply _ h3 _ _ (ix1 h : S256.Idx) fun a => match a with | ⟨0, _⟩ => rfl).trans ?_
  refine (shapeCast_1a_a_apply _ h2 h).trans ?_
  exact extractStridedSlice_apply _ B h1 _ _ fun a => match a with
    | ⟨0, _⟩ => rfl | ⟨1, _⟩ => (Nat.zero_add _).symm

/-- One of the reference's four products with its bias. -/
theorem linear_apply (X : S50000x256.Idx → EReal) (W : S4x256x256.Idx → EReal) (B : S4x256.Idx → EReal) (k : Fin 4)
    (h1 : S4x256x256.Slices ![k.val, 0, 0] S1x256x256) (h2 : S1x256x256.ShapeCasts S256x256) (h3 : S256x256.Transposes [1, 0] S256x256)
    (h4 : S4x256.Slices ![k.val, 0] S1x256) (h5 : S1x256.ShapeCasts S256) (h6 : S256.BroadcastsInDim S1x256 ![1])
    (h7 : S1x256.BroadcastsInDim S50000x256 ![0, 1]) (r : Fin 50000) (h : Fin 256) :
    addf (F := Ideal) (φ := .f32) (Host.dotGeneral (F := Ideal) (φ₁ := .f32) (φ₂ := .f32) dot_S50000x256_S256x256_S50000x256_1_0_0_1_n_n none X
        (transpose S256x256 [1, 0] (shapeCast S256x256 (extractStridedSlice S1x256x256 ![k.val, 0, 0] W h1) h2) h3))
      (broadcastInDim S50000x256 ![0, 1] h7 (broadcastInDim S1x256 ![1] h6 (shapeCast S256 (extractStridedSlice S1x256 ![k.val, 0] B h4) h5))) (ix2 r h)
      = entry X W B k r h := by
  refine congrArg₂ (· + ·) ?_ (bias_apply B k h4 h5 h6 h7 r h)
  refine (StackMember.dotGeneral_plain_apply (m := 50000) (k := 256) (n := 256) (φ₁ := .f32) (φ₂ := .f32) none X _ r h).trans ?_
  exact Finset.sum_congr rfl fun d _ => congrArg (X (ix2 r d) * ·) (matrix_apply W k h1 h2 h3 d h)

/-- A selection of equals is equal. -/
theorem select_congr {α : Type} {p p' : BitVec 1} {u u' v v' : α} (hp : p = p') (hu : u = u') (hv : v = v') :
    Scalar.select p u v = Scalar.select p' u' v' := by rw [hp, hu, hv]

/-- The reference's result as it is written, from its four arguments. -/
def result (X : S50000x256.Idx → EReal) (T : S50000.Idx → BitVec 32) (W : S4x256x256.Idx → EReal) (B : S4x256.Idx → EReal) : S50000x256.Idx → EReal :=
  fun y => Scalar.select (IntOp.cmpi .eq (T (ix1 (y 0))) 3#32) (entry X W B 3 (y 0) (y 1))
    (Scalar.select (IntOp.cmpi .eq (T (ix1 (y 0))) 2#32) (entry X W B 2 (y 0) (y 1))
      (Scalar.select (IntOp.cmpi .eq (T (ix1 (y 0))) 1#32) (entry X W B 1 (y 0) (y 1))
        (Scalar.select (IntOp.cmpi .eq (T (ix1 (y 0))) 0#32) (entry X W B 0 (y 0) (y 1)) 0)))

open Idealize.ShloMosaic.TcCoe Idealize.SL.Sem in
/-- The reference's run, its result read element by element. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.ReferenceIdeal.Value.run (F := Ideal) m ρ)
  funext y
  obtain ⟨a, b, rfl⟩ : ∃ (a : Fin 50000) (b : Fin 256), y = ix2 a b := ⟨y 0, y 1, eq_ix2 y⟩
  simp only [select_apply]
  refine select_congr (test_apply _ _ _ _ _ a b) (linear_apply _ _ _ 3 _ _ _ _ _ _ _ a b) ?_
  refine select_congr (test_apply _ _ _ _ _ a b) (linear_apply _ _ _ 2 _ _ _ _ _ _ _ a b) ?_
  refine select_congr (test_apply _ _ _ _ _ a b) (linear_apply _ _ _ 1 _ _ _ _ _ _ _ a b) ?_
  refine select_congr (test_apply _ _ _ _ _ a b) (linear_apply _ _ _ 0 _ _ _ _ _ _ _ a b) ?_
  exact (broadcastInDim_scalar_apply _ _ _).trans Ideal.ofBits_zero_f32

/-- The reference declares no counter, so every state's counters are zero. -/
theorem sems_zero (s : MemSt nD τ sig (Elt Ideal)) : s.sem = fun _ => 0 := sem_eq_zero_of_no_sems (by decide) s

end Cert.Proof.Ref
end
-- ==== Proof.Equation.lean ====
/-
  The equation: with every type between 0 and 3, the kernel's result array is the reference's.
-/
module

public import proofs.«01_k».proof.Proof.Launch
public import proofs.«01_k».proof.Proof.Value
public import proofs.«01_k».proof.Proof.HostArrays
public import proofs.«01_k».proof.Proof.Reference
public import proofs.«01_k».proof.Proof.Gen.Pre_types_in_range
public import proofs.«01_k».proof.Defs
public import Idealize.ShloMosaic.Lib.ReduceAll
public import Idealize.ShloMosaic.Lib.WordCmp

@[expose] public section

noncomputable section

namespace Cert.Proof.Rows

open Cert.KernelIdeal Cert.KernelIdeal.Gen
open Idealize.ShloMosaic Idealize.ShloMosaic.ValueIdx Idealize.ShloMosaic.TcCoe
open scoped BigOperators

variable (m : (ℓ : Loc nD τ sig) → Buf (Elt Ideal) ℓ)

/-- The precondition, at one row: the type is 0, 1, 2 or 3. -/
theorem types_of_pre (h : Cert.Pre_KernelIdeal_types_in_range m) (c : Dev nD) (r : Fin 50000) (t : BitVec 32)
    (ht : t = (m ((c.tc : Thread nD τ).loc main_arg1) : S50000.Idx → BitVec 32) (ix1 r)) : t = 0#32 ∨ t = 1#32 ∨ t = 2#32 ∨ t = 3#32 := by
  have : Subsingleton Cert.Pre_types_in_range.S_.Idx := ⟨fun a b => funext fun i => i.elim0⟩
  have e := congrFun (h c) ix0
  simp only [Cert.Pre_types_in_range.fn] at e
  have e := Host.reduce_andi_all _ _ _ _ _ e (ix1 r)
  have e : IntOp.andi (IntOp.cmpi .sge t 0#32) (IntOp.cmpi .slt t 4#32) = 1#1 := ht ▸ e
  obtain ⟨e0, e4⟩ := IntOp.andi_eq_one.1 e
  have one : ∀ p : Bool, BitVec.ofBool p = 1#1 → p = true := by decide
  have h0 : (0#32).sle t = true := one _ e0
  have h4 : t.slt 4#32 = true := one _ e4
  have n0 : 0 ≤ t.toInt := by simpa [BitVec.sle] using h0
  have n4 : t.toInt < 4 := by simpa [BitVec.slt] using h4
  have : t.toInt = 0 ∨ t.toInt = 1 ∨ t.toInt = 2 ∨ t.toInt = 3 := by omega
  rcases this with q | q | q | q
  · exact Or.inl (BitVec.eq_of_toInt_eq q)
  · exact Or.inr (Or.inl (BitVec.eq_of_toInt_eq q))
  · exact Or.inr (Or.inr (Or.inl (BitVec.eq_of_toInt_eq q)))
  · exact Or.inr (Or.inr (Or.inr (BitVec.eq_of_toInt_eq q)))

/-- For a type between 0 and 3 the kernel's choice, which takes type 0 for every other word, is the reference's, which has a
    zero for those. -/
theorem pick_eq {α : Type} (t : BitVec 32) (ht : t = 0#32 ∨ t = 1#32 ∨ t = 2#32 ∨ t = 3#32) (v0 v1 v2 v3 z : α) :
    pick t v0 v1 v2 v3 = Scalar.select (IntOp.cmpi .eq t 3#32) v3 (Scalar.select (IntOp.cmpi .eq t 2#32) v2
      (Scalar.select (IntOp.cmpi .eq t 1#32) v1 (Scalar.select (IntOp.cmpi .eq t 0#32) v0 z))) := by
  rcases ht with rfl | rfl | rfl | rfl <;> rfl

/-- Row `r` of block `b`. -/
def rowOfBlk (b : Fin 25) (r : Fin 2000) : Fin 50000 := ⟨2000 * b.val + r.val, by omega⟩

/-- A row block reads the features at its rows. -/
theorem xBlk_apply (c : Dev nD) (b : Fin 25) (r : Fin 2000) (d : Fin 256) :
    ((xBlk b).view.read (Elt Ideal) (V m c main_arg0) : S2000x256.Idx → EReal) (ix2 r d)
      = (m ((c.tc : Thread nD τ).loc main_arg0) : S50000x256.Idx → EReal) (ix2 (rowOfBlk b r) d) := by
  rw [V_main_arg0]
  refine congrArg (m ((c.tc : Thread nD τ).loc main_arg0) : S50000x256.Idx → EReal) (funext fun a => Fin.ext ?_)
  match a with
  | ⟨0, _⟩ => show 2000 * b.val + 1 * r.val = 2000 * b.val + r.val; omega
  | ⟨1, _⟩ => show 0 + 1 * d.val = d.val; omega

/-- A type block reads the types at its rows. -/
theorem tBlk_apply (c : Dev nD) (b : Fin 25) (r : Fin 2000) :
    ((tBlk b).view.read (Elt Ideal) (V m c main_v0) : S2000x1.Idx → BitVec 32) (ix2 r 0)
      = (m ((c.tc : Thread nD τ).loc main_arg1) : S50000.Idx → BitVec 32) (ix1 (rowOfBlk b r)) := by
  refine Eq.trans ?_ (column_apply m c (rowOfBlk b r) 0)
  refine congrArg (V m c main_v0 : S50000x1.Idx → BitVec 32) (funext fun a => Fin.ext ?_)
  match a with
  | ⟨0, _⟩ => show 2000 * b.val + 1 * r.val = 2000 * b.val + r.val; omega
  | ⟨1, _⟩ => rfl

/-- A bias row reads the biases. -/
theorem bC_apply (c : Dev nD) (k : Fin 4) (h : ∀ a, (![k.val, 0] : Fin 2 → Nat) a + S1x256.size a ≤ S4x256.size a) (l : Fin 256) :
    (bC m c k h : S1x256.Idx → EReal) (ix2 0 l) = (m ((c.tc : Thread nD τ).loc main_arg3) : S4x256.Idx → EReal) (ix2 k l) := by
  show (V m c main_arg3 : S4x256.Idx → EReal) _ = _
  rw [V_main_arg3]
  refine congrArg (m ((c.tc : Thread nD τ).loc main_arg3) : S4x256.Idx → EReal) (funext fun a => Fin.ext ?_)
  match a with
  | ⟨0, _⟩ => show k.val + 1 * 0 = k.val; omega
  | ⟨1, _⟩ => show 0 + 1 * l.val = l.val; omega

/-- One of the four candidates of a block's row is the reference's entry. -/
theorem entry_eq (c : Dev nD) (b : Fin 25) (k : Fin 4) (h : ∀ a, (![k.val, 0] : Fin 2 → Nat) a + S1x256.size a ≤ S4x256.size a)
    (r : Fin 2000) (l : Fin 256) (q : Fin 1024) (hq : q.val = 256 * k.val + l.val) :
    ∑ d : Fin 256, ((xBlk b).view.read (Elt Ideal) (V m c main_arg0) : S2000x256.Idx → EReal) (ix2 r d) * (wC m c : S256x1024.Idx → EReal) (ix2 d q)
        + (bC m c k h : S1x256.Idx → EReal) (ix2 0 l)
      = Ref.entry (m ((c.tc : Thread nD τ).loc main_arg0)) (m ((c.tc : Thread nD τ).loc main_arg2)) (m ((c.tc : Thread nD τ).loc main_arg3)) k (rowOfBlk b r) l :=
  congrArg₂ (· + ·) (Finset.sum_congr rfl fun d _ => congrArg₂ (· * ·) (xBlk_apply m c b r d) (weights_apply m c k l d q hq)) (bC_apply m c k h l)

/-- The kernel's result array is the reference's result. -/
theorem result_eq (h : Cert.Pre_KernelIdeal_types_in_range m) (c : Dev nD) :
    wholeOf (valC m c) = Ref.result (m ((c.tc : Thread nD τ).loc main_arg0)) (m ((c.tc : Thread nD τ).loc main_arg1))
      (m ((c.tc : Thread nD τ).loc main_arg2)) (m ((c.tc : Thread nD τ).loc main_arg3)) := by
  funext y
  have hy : (y 0).val < 50000 := (y 0).isLt
  obtain ⟨b, r, hb⟩ : ∃ (b : Fin 25) (r : Fin 2000), y 0 = rowOfBlk b r ∧ wholeOf (valC m c) y = valC m c b (ix2 r (y 1)) :=
    ⟨⟨(y 0).val / 2000, by omega⟩, ⟨(y 0).val % 2000, by omega⟩, Fin.ext (by show (y 0).val = 2000 * ((y 0).val / 2000) + (y 0).val % 2000; omega), rfl⟩
  rw [hb.2]
  unfold Ref.result
  rw [hb.1]
  refine (block_apply _ _ _ _ _ _ _ r (y 1)).trans ?_
  rw [tBlk_apply m c b r, entry_eq m c b 0 _ r (y 1) _ (Nat.zero_add _).symm, entry_eq m c b 1 _ r (y 1) _ rfl,
    entry_eq m c b 2 _ r (y 1) _ rfl, entry_eq m c b 3 _ r (y 1) _ rfl]
  exact pick_eq _ (types_of_pre m h c (rowOfBlk b r) _ rfl) _ _ _ _ _

end Cert.Proof.Rows
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_types_in_range
public import proofs.«01_k».proof.Proof.Gen.ReferenceIdeal.Run
public import proofs.«01_k».proof.Proof.Frames
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: it runs, keeps its arguments, and declares no counter. -/
theorem frame_reference : Cert.quiescent_ReferenceIdeal := fun m ρ _ =>
  (θ_run _ _ _).mono (fun r h => ⟨fun c => (h c).2, Ref.sems_zero r.2⟩) (Ref.run_result m ρ)
/-- and under the value claim's precondition. -/
theorem frame_reference_pre : Cert.quiescent_ReferenceIdeal_pre_types_in_range := fun m ρ _ =>
  (θ_run _ _ _).mono (fun r h => ⟨fun c => (h c).2, Ref.sems_zero r.2⟩) (Ref.run_result m ρ)

/-- With every type between 0 and 3, the kernel and the reference end with one and the same result. -/
theorem same_result : Cert.algebraic_KernelIdeal_ReferenceIdeal_pre_types_in_range := by
  intro m ρ m' ρ' hpre hargs
  refine ⟨fun c => Rows.wholeOf (Rows.valC m c), (θ_run _ _ _).mono (fun _ h => h.1) (Rows.run_post (F := Ideal) m ρ),
    (θ_run _ _ _).mono (fun r h c => ⟨(h c).1.trans ?_, (h c).2⟩) (Ref.run_result m' ρ')⟩
  obtain ⟨h0, h1, h2, h3⟩ := hargs c
  rw [h0, h1, h2, h3]
  exact (Rows.result_eq m hpre c).symm

/-- Everything the certificate claims. -/
theorem claim : Cert.Claim := ⟨Cert.Kernel.Gen.facts, Cert.KernelIdeal.Gen.facts, Cert.ReferenceIdeal.Gen.facts, Cert.Pre_types_in_range.Gen.facts,
  Rows.frame_words, Rows.frame_ideal, Rows.frame_ideal_pre, frame_reference, frame_reference_pre, trivial, same_result⟩

end Cert.Proof

end
